-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xC1F00000#32 ⊥

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![768, 512]⟩ ⟨2, ![768, 4096]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨4, ![2, 512, 8, 64]⟩ ⟨4, ![2, 512, 64, 64]⟩ 2 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 512, 8, 64]⟩ ⟨4, ![2, 512, 64, 64]⟩ 2 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![512, 768]⟩ ⟨2, ![4096, 768]⟩ 0 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v45) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x512x768 : Shape := ⟨3, ![2, 512, 768]⟩
abbrev S768x512 : Shape := ⟨2, ![768, 512]⟩
abbrev S2x512x8x64 : Shape := ⟨4, ![2, 512, 8, 64]⟩
abbrev S512x768 : Shape := ⟨2, ![512, 768]⟩
abbrev S_ : Shape := ⟨0, ![]⟩

class Facts : Prop where
  bitsLt_bf16_f32 : FTy.bits .bf16 < FTy.bits .f32
  bcast_S_S2x512x768 : S_.BroadcastsInDim S2x512x768 (![] : Fin 0 → Fin S2x512x768.rank)
  reducesTo_S2x512x768_S_d0_1_2 : S2x512x768.ReducesTo [0, 1, 2] S_
  h_S_ : 0 < S_.numel
  bcast_S_S768x512 : S_.BroadcastsInDim S768x512 (![] : Fin 0 → Fin S768x512.rank)
  reducesTo_S768x512_S_d0_1 : S768x512.ReducesTo [0, 1] S_
  bcast_S_S2x512x8x64 : S_.BroadcastsInDim S2x512x8x64 (![] : Fin 0 → Fin S2x512x8x64.rank)
  reducesTo_S2x512x8x64_S_d0_1_2_3 : S2x512x8x64.ReducesTo [0, 1, 2, 3] S_

variable [Facts]

def fn {F : FTy → Type} [FloatOps F] (main_arg0 : FVec F S2x512x768 .bf16) (main_arg1 : FVec F S768x512 .bf16) (main_arg2 : FVec F S2x512x8x64 .bf16) (main_arg3 : FVec F S2x512x8x64 .bf16) (main_arg4 : FVec F S512x768 .bf16) : IVec S_ 1 :=
  let main_v0 : FVec F S2x512x768 .f32 := (extf .f32 · bitsLt_bf16_f32) main_arg0
  let main_v1 : FVec F S2x512x768 .f32 := Host.absf main_v0
  let main_cst : FVec F S_ .f32 := constant S_ .f32 0x7F800000#32
  let main_v2 : FVec F S2x512x768 .f32 := broadcastInDim S2x512x768 ![] bcast_S_S2x512x768 main_cst
  let main_v3 : IVec S2x512x768 1 := cmpf .olt main_v1 main_v2
  let main_c : IVec S_ 1 := constantI S_ 1 1#1
  let main_v4 : IVec S_ 1 := (fun x v => Host.reduce IntOp.andi x v reducesTo_S2x512x768_S_d0_1_2 h_S_) main_v3 main_c
  let main_v5 : FVec F S768x512 .f32 := (extf .f32 · bitsLt_bf16_f32) main_arg1
  let main_v6 : FVec F S768x512 .f32 := Host.absf main_v5
  let main_cst_0 : FVec F S_ .f32 := constant S_ .f32 0x7F800000#32
  let main_v7 : FVec F S768x512 .f32 := broadcastInDim S768x512 ![] bcast_S_S768x512 main_cst_0
  let main_v8 : IVec S768x512 1 := cmpf .olt main_v6 main_v7
  let main_c_1 : IVec S_ 1 := constantI S_ 1 1#1
  let main_v9 : IVec S_ 1 := (fun x v => Host.reduce IntOp.andi x v reducesTo_S768x512_S_d0_1 h_S_) main_v8 main_c_1
  let main_v10 : IVec S_ 1 := andi main_v4 main_v9
  let main_v11 : FVec F S2x512x8x64 .f32 := (extf .f32 · bitsLt_bf16_f32) main_arg2
  let main_v12 : FVec F S2x512x8x64 .f32 := Host.absf main_v11
  let main_cst_2 : FVec F S_ .f32 := constant S_ .f32 0x7F800000#32
  let main_v13 : FVec F S2x512x8x64 .f32 := broadcastInDim S2x512x8x64 ![] bcast_S_S2x512x8x64 main_cst_2
  let main_v14 : IVec S2x512x8x64 1 := cmpf .olt main_v12 main_v13
  let main_c_3 : IVec S_ 1 := constantI S_ 1 1#1
  let main_v15 : IVec S_ 1 := (fun x v => Host.reduce IntOp.andi x v reducesTo_S2x512x8x64_S_d0_1_2_3 h_S_) main_v14 main_c_3
  let main_v16 : IVec S_ 1 := andi main_v10 main_v15
  main_v16
-- ==== Pre_finite_ReferenceIdeal.lean ====
abbrev S2x512x768 : Shape := ⟨3, ![2, 512, 768]⟩
abbrev S768x4096 : Shape := ⟨2, ![768, 4096]⟩
abbrev S2x512x64x64 : Shape := ⟨4, ![2, 512, 64, 64]⟩
abbrev S4096x768 : Shape := ⟨2, ![4096, 768]⟩
abbrev S_ : Shape := ⟨0, ![]⟩

class Facts : Prop where
  bitsLt_bf16_f32 : FTy.bits .bf16 < FTy.bits .f32
  bcast_S_S2x512x768 : S_.BroadcastsInDim S2x512x768 (![] : Fin 0 → Fin S2x512x768.rank)
  reducesTo_S2x512x768_S_d0_1_2 : S2x512x768.ReducesTo [0, 1, 2] S_
  h_S_ : 0 < S_.numel
  bcast_S_S768x4096 : S_.BroadcastsInDim S768x4096 (![] : Fin 0 → Fin S768x4096.rank)
  reducesTo_S768x4096_S_d0_1 : S768x4096.ReducesTo [0, 1] S_
  bcast_S_S2x512x64x64 : S_.BroadcastsInDim S2x512x64x64 (![] : Fin 0 → Fin S2x512x64x64.rank)
  reducesTo_S2x512x64x64_S_d0_1_2_3 : S2x512x64x64.ReducesTo [0, 1, 2, 3] S_

variable [Facts]

def fn {F : FTy → Type} [FloatOps F] (main_arg0 : FVec F S2x512x768 .bf16) (main_arg1 : FVec F S768x4096 .bf16) (main_arg2 : FVec F S2x512x64x64 .bf16) (main_arg3 : FVec F S2x512x64x64 .bf16) (main_arg4 : FVec F S4096x768 .bf16) : IVec S_ 1 :=
  let main_v0 : FVec F S2x512x768 .f32 := (extf .f32 · bitsLt_bf16_f32) main_arg0
  let main_v1 : FVec F S2x512x768 .f32 := Host.absf main_v0
  let main_cst : FVec F S_ .f32 := constant S_ .f32 0x7F800000#32
  let main_v2 : FVec F S2x512x768 .f32 := broadcastInDim S2x512x768 ![] bcast_S_S2x512x768 main_cst
  let main_v3 : IVec S2x512x768 1 := cmpf .olt main_v1 main_v2
  let main_c : IVec S_ 1 := constantI S_ 1 1#1
  let main_v4 : IVec S_ 1 := (fun x v => Host.reduce IntOp.andi x v reducesTo_S2x512x768_S_d0_1_2 h_S_) main_v3 main_c
  let main_v5 : FVec F S768x4096 .f32 := (extf .f32 · bitsLt_bf16_f32) main_arg1
  let main_v6 : FVec F S768x4096 .f32 := Host.absf main_v5
  let main_cst_0 : FVec F S_ .f32 := constant S_ .f32 0x7F800000#32
  let main_v7 : FVec F S768x4096 .f32 := broadcastInDim S768x4096 ![] bcast_S_S768x4096 main_cst_0
  let main_v8 : IVec S768x4096 1 := cmpf .olt main_v6 main_v7
  let main_c_1 : IVec S_ 1 := constantI S_ 1 1#1
  let main_v9 : IVec S_ 1 := (fun x v => Host.reduce IntOp.andi x v reducesTo_S768x4096_S_d0_1 h_S_) main_v8 main_c_1
  let main_v10 : IVec S_ 1 := andi main_v4 main_v9
  let main_v11 : FVec F S2x512x64x64 .f32 := (extf .f32 · bitsLt_bf16_f32) main_arg2
  let main_v12 : FVec F S2x512x64x64 .f32 := Host.absf main_v11
  let main_cst_2 : FVec F S_ .f32 := constant S_ .f32 0x7F800000#32
  let main_v13 : FVec F S2x512x64x64 .f32 := broadcastInDim S2x512x64x64 ![] bcast_S_S2x512x64x64 main_cst_2
  let main_v14 : IVec S2x512x64x64 1 := cmpf .olt main_v12 main_v13
  let main_c_3 : IVec S_ 1 := constantI S_ 1 1#1
  let main_v15 : IVec S_ 1 := (fun x v => Host.reduce IntOp.andi x v reducesTo_S2x512x64x64_S_d0_1_2_3 h_S_) main_v14 main_c_3
  let main_v16 : IVec S_ 1 := andi main_v10 main_v15
  main_v16
-- ==== Kernel.lean ====
abbrev S2x512x768 : Shape := ⟨3, ![2, 512, 768]⟩
abbrev S768x512 : Shape := ⟨2, ![768, 512]⟩
abbrev S2x512x8x64 : Shape := ⟨4, ![2, 512, 8, 64]⟩
abbrev S512x768 : Shape := ⟨2, ![512, 768]⟩
abbrev S2x512x512 : Shape := ⟨3, ![2, 512, 512]⟩
abbrev S8x2x64x768 : Shape := ⟨4, ![8, 2, 64, 768]⟩
abbrev S8 : Shape := ⟨1, ![8]⟩
abbrev S_ : Shape := ⟨0, ![]⟩
abbrev S512x512 : Shape := ⟨2, ![512, 512]⟩
abbrev S1x512x768 : Shape := ⟨3, ![1, 512, 768]⟩
abbrev S1x512x1x64 : Shape := ⟨4, ![1, 512, 1, 64]⟩
abbrev S512x64 : Shape := ⟨2, ![512, 64]⟩
abbrev S256x64 : Shape := ⟨2, ![256, 64]⟩
abbrev S256x512 : Shape := ⟨2, ![256, 512]⟩
abbrev S256 : Shape := ⟨1, ![256]⟩
abbrev S256x1 : Shape := ⟨2, ![256, 1]⟩
abbrev S1x256x64 : Shape := ⟨3, ![1, 256, 64]⟩
abbrev S1x256x512 : Shape := ⟨3, ![1, 256, 512]⟩
abbrev S256x768 : Shape := ⟨2, ![256, 768]⟩
abbrev S1x256x768 : Shape := ⟨3, ![1, 256, 768]⟩
abbrev S1 : Shape := ⟨1, ![1]⟩
abbrev S1x2x64x768 : Shape := ⟨4, ![1, 2, 64, 768]⟩
abbrev S2x64x768 : Shape := ⟨3, ![2, 64, 768]⟩

abbrev nBuf : Space → Nat
  | .hbm => 6
  | .vmem => 9
  | .smem => 0
  | _ => 0

abbrev bufTy : (tb : Table) → Fin (tcTables nBuf tb) → BufTy
  | .hbm, ⟨0, _⟩ => ⟨S2x512x768, .bf16⟩
  | .hbm, ⟨1, _⟩ => ⟨S768x512, .bf16⟩
  | .hbm, ⟨2, _⟩ => ⟨S2x512x8x64, .bf16⟩
  | .hbm, ⟨3, _⟩ => ⟨S2x512x8x64, .bf16⟩
  | .hbm, ⟨4, _⟩ => ⟨S512x768, .bf16⟩
  | .hbm, ⟨5, _⟩ => ⟨S2x512x768, .bf16⟩
  | .local _ .vmem, ⟨0, _⟩ => ⟨S2x512x768, .bf16⟩
  | .local _ .vmem, ⟨1, _⟩ => ⟨S768x512, .bf16⟩
  | .local _ .vmem, ⟨2, _⟩ => ⟨S2x512x8x64, .bf16⟩
  | .local _ .vmem, ⟨3, _⟩ => ⟨S2x512x8x64, .bf16⟩
  | .local _ .vmem, ⟨4, _⟩ => ⟨S512x768, .bf16⟩
  | .local _ .vmem, ⟨5, _⟩ => ⟨S2x512x768, .bf16⟩
  | .local _ .vmem, ⟨6, _⟩ => ⟨S2x512x768, .bf16⟩
  | .local _ .vmem, ⟨7, _⟩ => ⟨S2x512x512, .bf16⟩
  | .local _ .vmem, ⟨8, _⟩ => ⟨S8x2x64x768, .bf16⟩
  | _, _ => ⟨S2x512x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  (ofTc nBuf bufTy 1 38 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .ne v2 c0_i32
  let v5 : BitVec 32 := Scalar.extui v4
  let c0_i32_0 : BitVec 32 := 0#32
  let v6 : BitVec 1 := Scalar.cmpi .ne v5 c0_i32_0
  v6

def k0_dev1 : Nat :=
  let c0_i32_607 : BitVec 32 := 0#32
  let c0_i32_605 : BitVec 32 := 0#32
  let c1_i32_606 : BitVec 32 := 1#32
  let v930 : BitVec 32 := Scalar.muli c0_i32_605 c1_i32_606
  let v931 : BitVec 32 := Scalar.addi c0_i32_607 v930
  v931.toNat
def k0_cond2 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v7 : BitVec 1 := Scalar.cmpi .ne v2 c1_i32_1
  let v8 : BitVec 32 := Scalar.extui v7
  let c0_i32_2 : BitVec 32 := 0#32
  let v9 : BitVec 1 := Scalar.cmpi .ne v8 c0_i32_2
  v9

def k0_dev2 : Nat :=
  let c0_i32_607 : BitVec 32 := 0#32
  let c1_i32_605 : BitVec 32 := 1#32
  let c1_i32_606 : BitVec 32 := 1#32
  let v930 : BitVec 32 := Scalar.muli c1_i32_605 c1_i32_606
  let v931 : BitVec 32 := Scalar.addi c0_i32_607 v930
  v931.toNat
def k0_cond3 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v10 : BitVec 1 := Scalar.cmpi .ne v2 c2_i32
  let v11 : BitVec 32 := Scalar.extui v10
  let c0_i32_3 : BitVec 32 := 0#32
  let v12 : BitVec 1 := Scalar.cmpi .ne v11 c0_i32_3
  v12

def k0_dev3 : Nat :=
  let c0_i32_607 : BitVec 32 := 0#32
  let c2_i32_605 : BitVec 32 := 2#32
  let c1_i32_606 : BitVec 32 := 1#32
  let v930 : BitVec 32 := Scalar.muli c2_i32_605 c1_i32_606
  let v931 : BitVec 32 := Scalar.addi c0_i32_607 v930
  v931.toNat
def k0_cond4 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v13 : BitVec 1 := Scalar.cmpi .ne v2 c3_i32
  let v14 : BitVec 32 := Scalar.extui v13
  let c0_i32_4 : BitVec 32 := 0#32
  let v15 : BitVec 1 := Scalar.cmpi .ne v14 c0_i32_4
  v15

def k0_dev4 : Nat :=
  let c0_i32_607 : BitVec 32 := 0#32
  let c3_i32_605 : BitVec 32 := 3#32
  let c1_i32_606 : BitVec 32 := 1#32
  let v930 : BitVec 32 := Scalar.muli c3_i32_605 c1_i32_606
  let v931 : BitVec 32 := Scalar.addi c0_i32_607 v930
  v931.toNat
def k0_cond5 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 1 := Scalar.cmpi .ne v2 c4_i32
  let v17 : BitVec 32 := Scalar.extui v16
  let c0_i32_5 : BitVec 32 := 0#32
  let v18 : BitVec 1 := Scalar.cmpi .ne v17 c0_i32_5
  v18

def k0_dev5 : Nat :=
  let c0_i32_607 : BitVec 32 := 0#32
  let c4_i32_605 : BitVec 32 := 4#32
  let c1_i32_606 : BitVec 32 := 1#32
  let v930 : BitVec 32 := Scalar.muli c4_i32_605 c1_i32_606
  let v931 : BitVec 32 := Scalar.addi c0_i32_607 v930
  v931.toNat
def k0_cond6 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v19 : BitVec 1 := Scalar.cmpi .ne v2 c5_i32
  let v20 : BitVec 32 := Scalar.extui v19
  let c0_i32_6 : BitVec 32 := 0#32
  let v21 : BitVec 1 := Scalar.cmpi .ne v20 c0_i32_6
  v21

def k0_dev6 : Nat :=
  let c0_i32_607 : BitVec 32 := 0#32
  let c5_i32_605 : BitVec 32 := 5#32
  let c1_i32_606 : BitVec 32 := 1#32
  let v930 : BitVec 32 := Scalar.muli c5_i32_605 c1_i32_606
  let v931 : BitVec 32 := Scalar.addi c0_i32_607 v930
  v931.toNat
def k0_cond7 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v22 : BitVec 1 := Scalar.cmpi .ne v2 c6_i32
  let v23 : BitVec 32 := Scalar.extui v22
  let c0_i32_7 : BitVec 32 := 0#32
  let v24 : BitVec 1 := Scalar.cmpi .ne v23 c0_i32_7
  v24

def k0_dev7 : Nat :=
  let c0_i32_607 : BitVec 32 := 0#32
  let c6_i32_605 : BitVec 32 := 6#32
  let c1_i32_606 : BitVec 32 := 1#32
  let v930 : BitVec 32 := Scalar.muli c6_i32_605 c1_i32_606
  let v931 : BitVec 32 := Scalar.addi c0_i32_607 v930
  v931.toNat
def k0_cond8 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v25 : BitVec 1 := Scalar.cmpi .ne v2 c7_i32
  let v26 : BitVec 32 := Scalar.extui v25
  let c0_i32_8 : BitVec 32 := 0#32
  let v27 : BitVec 1 := Scalar.cmpi .ne v26 c0_i32_8
  v27

def k0_dev8 : Nat :=
  let c0_i32_607 : BitVec 32 := 0#32
  let c7_i32_605 : BitVec 32 := 7#32
  let c1_i32_606 : BitVec 32 := 1#32
  let v930 : BitVec 32 := Scalar.muli c7_i32_605 c1_i32_606
  let v931 : BitVec 32 := Scalar.addi c0_i32_607 v930
  v931.toNat
def k0_cond9 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_272 : BitVec 32 := 0#32
  let v462 : BitVec 1 := Scalar.cmpi .ne v2 c0_i32_272
  let v463 : BitVec 32 := Scalar.extui v462
  let c0_i32_273 : BitVec 32 := 0#32
  let v464 : BitVec 1 := Scalar.cmpi .ne v463 c0_i32_273
  v464

def k0_off1 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off2 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_608 : BitVec 32 := 0#32
  let c0_i32_609 : BitVec 32 := 0#32
  let c0_i32_610 : BitVec 32 := 0#32
  ![v2.toNat, 0, 0, 0]
def k0_dev9 : Nat :=
  let c0_i32_607 : BitVec 32 := 0#32
  let c0_i32_605 : BitVec 32 := 0#32
  let c1_i32_606 : BitVec 32 := 1#32
  let v930 : BitVec 32 := Scalar.muli c0_i32_605 c1_i32_606
  let v931 : BitVec 32 := Scalar.addi c0_i32_607 v930
  v931.toNat
def k0_cond10 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_274 : BitVec 32 := 1#32
  let v465 : BitVec 1 := Scalar.cmpi .ne v2 c1_i32_274
  let v466 : BitVec 32 := Scalar.extui v465
  let c0_i32_275 : BitVec 32 := 0#32
  let v467 : BitVec 1 := Scalar.cmpi .ne v466 c0_i32_275
  v467

def k0_off3 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off4 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_608 : BitVec 32 := 0#32
  let c0_i32_609 : BitVec 32 := 0#32
  let c0_i32_610 : BitVec 32 := 0#32
  ![v2.toNat, 0, 0, 0]
def k0_dev10 : Nat :=
  let c0_i32_607 : BitVec 32 := 0#32
  let c1_i32_605 : BitVec 32 := 1#32
  let c1_i32_606 : BitVec 32 := 1#32
  let v930 : BitVec 32 := Scalar.muli c1_i32_605 c1_i32_606
  let v931 : BitVec 32 := Scalar.addi c0_i32_607 v930
  v931.toNat
def k0_cond11 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_276 : BitVec 32 := 2#32
  let v468 : BitVec 1 := Scalar.cmpi .ne v2 c2_i32_276
  let v469 : BitVec 32 := Scalar.extui v468
  let c0_i32_277 : BitVec 32 := 0#32
  let v470 : BitVec 1 := Scalar.cmpi .ne v469 c0_i32_277
  v470

def k0_off5 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off6 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_608 : BitVec 32 := 0#32
  let c0_i32_609 : BitVec 32 := 0#32
  let c0_i32_610 : BitVec 32 := 0#32
  ![v2.toNat, 0, 0, 0]
def k0_dev11 : Nat :=
  let c0_i32_607 : BitVec 32 := 0#32
  let c2_i32_605 : BitVec 32 := 2#32
  let c1_i32_606 : BitVec 32 := 1#32
  let v930 : BitVec 32 := Scalar.muli c2_i32_605 c1_i32_606
  let v931 : BitVec 32 := Scalar.addi c0_i32_607 v930
  v931.toNat
def k0_cond12 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_278 : BitVec 32 := 3#32
  let v471 : BitVec 1 := Scalar.cmpi .ne v2 c3_i32_278
  let v472 : BitVec 32 := Scalar.extui v471
  let c0_i32_279 : BitVec 32 := 0#32
  let v473 : BitVec 1 := Scalar.cmpi .ne v472 c0_i32_279
  v473

def k0_off7 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off8 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_608 : BitVec 32 := 0#32
  let c0_i32_609 : BitVec 32 := 0#32
  let c0_i32_610 : BitVec 32 := 0#32
  ![v2.toNat, 0, 0, 0]
def k0_dev12 : Nat :=
  let c0_i32_607 : BitVec 32 := 0#32
  let c3_i32_605 : BitVec 32 := 3#32
  let c1_i32_606 : BitVec 32 := 1#32
  let v930 : BitVec 32 := Scalar.muli c3_i32_605 c1_i32_606
  let v931 : BitVec 32 := Scalar.addi c0_i32_607 v930
  v931.toNat
def k0_cond13 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_518 : BitVec 32 := 4#32
  let v808 : BitVec 1 := Scalar.cmpi .ne v2 c4_i32_518
  let v809 : BitVec 32 := Scalar.extui v808
  let c0_i32_519 : BitVec 32 := 0#32
  let v810 : BitVec 1 := Scalar.cmpi .ne v809 c0_i32_519
  v810

def k0_off9 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off10 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_608 : BitVec 32 := 0#32
  let c0_i32_609 : BitVec 32 := 0#32
  let c0_i32_610 : BitVec 32 := 0#32
  ![v2.toNat, 0, 0, 0]
def k0_dev13 : Nat :=
  let c0_i32_607 : BitVec 32 := 0#32
  let c4_i32_605 : BitVec 32 := 4#32
  let c1_i32_606 : BitVec 32 := 1#32
  let v930 : BitVec 32 := Scalar.muli c4_i32_605 c1_i32_606
  let v931 : BitVec 32 := Scalar.addi c0_i32_607 v930
  v931.toNat
def k0_cond14 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_520 : BitVec 32 := 5#32
  let v811 : BitVec 1 := Scalar.cmpi .ne v2 c5_i32_520
  let v812 : BitVec 32 := Scalar.extui v811
  let c0_i32_521 : BitVec 32 := 0#32
  let v813 : BitVec 1 := Scalar.cmpi .ne v812 c0_i32_521
  v813

def k0_off11 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off12 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_608 : BitVec 32 := 0#32
  let c0_i32_609 : BitVec 32 := 0#32
  let c0_i32_610 : BitVec 32 := 0#32
  ![v2.toNat, 0, 0, 0]
def k0_dev14 : Nat :=
  let c0_i32_607 : BitVec 32 := 0#32
  let c5_i32_605 : BitVec 32 := 5#32
  let c1_i32_606 : BitVec 32 := 1#32
  let v930 : BitVec 32 := Scalar.muli c5_i32_605 c1_i32_606
  let v931 : BitVec 32 := Scalar.addi c0_i32_607 v930
  v931.toNat
def k0_cond15 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_522 : BitVec 32 := 6#32
  let v814 : BitVec 1 := Scalar.cmpi .ne v2 c6_i32_522
  let v815 : BitVec 32 := Scalar.extui v814
  let c0_i32_523 : BitVec 32 := 0#32
  let v816 : BitVec 1 := Scalar.cmpi .ne v815 c0_i32_523
  v816

def k0_off13 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off14 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_608 : BitVec 32 := 0#32
  let c0_i32_609 : BitVec 32 := 0#32
  let c0_i32_610 : BitVec 32 := 0#32
  ![v2.toNat, 0, 0, 0]
def k0_dev15 : Nat :=
  let c0_i32_607 : BitVec 32 := 0#32
  let c6_i32_605 : BitVec 32 := 6#32
  let c1_i32_606 : BitVec 32 := 1#32
  let v930 : BitVec 32 := Scalar.muli c6_i32_605 c1_i32_606
  let v931 : BitVec 32 := Scalar.addi c0_i32_607 v930
  v931.toNat
def k0_cond16 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_524 : BitVec 32 := 7#32
  let v817 : BitVec 1 := Scalar.cmpi .ne v2 c7_i32_524
  let v818 : BitVec 32 := Scalar.extui v817
  let c0_i32_525 : BitVec 32 := 0#32
  let v819 : BitVec 1 := Scalar.cmpi .ne v818 c0_i32_525
  v819

def k0_off15 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off16 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_608 : BitVec 32 := 0#32
  let c0_i32_609 : BitVec 32 := 0#32
  let c0_i32_610 : BitVec 32 := 0#32
  ![v2.toNat, 0, 0, 0]
def k0_dev16 : Nat :=
  let c0_i32_607 : BitVec 32 := 0#32
  let c7_i32_605 : BitVec 32 := 7#32
  let c1_i32_606 : BitVec 32 := 1#32
  let v930 : BitVec 32 := Scalar.muli c7_i32_605 c1_i32_606
  let v931 : BitVec 32 := Scalar.addi c0_i32_607 v930
  v931.toNat
def k0_off17 (d0 : Dev nD) : Fin 3 → Nat :=
  let c0_527 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_526 : BitVec 32 := 64#32
  let v820 : BitVec 32 := Scalar.muli v2 c64_i32_526
  let v821 : Index := Scalar.indexCast v820
  let c0_528 : Index := 0#32
  ![0, v821.toNat, 0]
def k0_off18 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v823 : Index := Scalar.indexCast v2
  let c0_529 : Index := 0#32
  let c0_530 : Index := 0#32
  let c0_531 : Index := 0#32
  ![v823.toNat, 0, 0, 0]
def k0_cond25 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_556 : BitVec 32 := 0#32
  let v858 : BitVec 1 := Scalar.cmpi .ne v2 c0_i32_556
  let v859 : BitVec 32 := Scalar.extui v858
  let c0_i32_557 : BitVec 32 := 0#32
  let v860 : BitVec 1 := Scalar.cmpi .ne v859 c0_i32_557
  v860

def k0_off19 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off20 (d0 : Dev nD) : Fin 3 → Nat :=
  let c0_i32_610 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_605 : BitVec 32 := 64#32
  let v931 : BitVec 32 := Scalar.muli v2 c64_i32_605
  let c0_i32_611 : BitVec 32 := 0#32
  ![0, v931.toNat, 0]
def k0_dev17 : Nat :=
  let c0_i32_609 : BitVec 32 := 0#32
  let c0_i32_607 : BitVec 32 := 0#32
  let c1_i32_608 : BitVec 32 := 1#32
  let v932 : BitVec 32 := Scalar.muli c0_i32_607 c1_i32_608
  let v933 : BitVec 32 := Scalar.addi c0_i32_609 v932
  v933.toNat
def k0_cond26 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_558 : BitVec 32 := 1#32
  let v861 : BitVec 1 := Scalar.cmpi .ne v2 c1_i32_558
  let v862 : BitVec 32 := Scalar.extui v861
  let c0_i32_559 : BitVec 32 := 0#32
  let v863 : BitVec 1 := Scalar.cmpi .ne v862 c0_i32_559
  v863

def k0_off21 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off22 (d0 : Dev nD) : Fin 3 → Nat :=
  let c0_i32_610 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_605 : BitVec 32 := 64#32
  let v931 : BitVec 32 := Scalar.muli v2 c64_i32_605
  let c0_i32_611 : BitVec 32 := 0#32
  ![0, v931.toNat, 0]
def k0_dev18 : Nat :=
  let c0_i32_609 : BitVec 32 := 0#32
  let c1_i32_607 : BitVec 32 := 1#32
  let c1_i32_608 : BitVec 32 := 1#32
  let v932 : BitVec 32 := Scalar.muli c1_i32_607 c1_i32_608
  let v933 : BitVec 32 := Scalar.addi c0_i32_609 v932
  v933.toNat
def k0_cond27 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_560 : BitVec 32 := 2#32
  let v864 : BitVec 1 := Scalar.cmpi .ne v2 c2_i32_560
  let v865 : BitVec 32 := Scalar.extui v864
  let c0_i32_561 : BitVec 32 := 0#32
  let v866 : BitVec 1 := Scalar.cmpi .ne v865 c0_i32_561
  v866

def k0_off23 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off24 (d0 : Dev nD) : Fin 3 → Nat :=
  let c0_i32_610 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_605 : BitVec 32 := 64#32
  let v931 : BitVec 32 := Scalar.muli v2 c64_i32_605
  let c0_i32_611 : BitVec 32 := 0#32
  ![0, v931.toNat, 0]
def k0_dev19 : Nat :=
  let c0_i32_609 : BitVec 32 := 0#32
  let c2_i32_607 : BitVec 32 := 2#32
  let c1_i32_608 : BitVec 32 := 1#32
  let v932 : BitVec 32 := Scalar.muli c2_i32_607 c1_i32_608
  let v933 : BitVec 32 := Scalar.addi c0_i32_609 v932
  v933.toNat
def k0_cond28 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_562 : BitVec 32 := 3#32
  let v867 : BitVec 1 := Scalar.cmpi .ne v2 c3_i32_562
  let v868 : BitVec 32 := Scalar.extui v867
  let c0_i32_563 : BitVec 32 := 0#32
  let v869 : BitVec 1 := Scalar.cmpi .ne v868 c0_i32_563
  v869

def k0_off25 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off26 (d0 : Dev nD) : Fin 3 → Nat :=
  let c0_i32_610 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_605 : BitVec 32 := 64#32
  let v931 : BitVec 32 := Scalar.muli v2 c64_i32_605
  let c0_i32_611 : BitVec 32 := 0#32
  ![0, v931.toNat, 0]
def k0_dev20 : Nat :=
  let c0_i32_609 : BitVec 32 := 0#32
  let c3_i32_607 : BitVec 32 := 3#32
  let c1_i32_608 : BitVec 32 := 1#32
  let v932 : BitVec 32 := Scalar.muli c3_i32_607 c1_i32_608
  let v933 : BitVec 32 := Scalar.addi c0_i32_609 v932
  v933.toNat
def k0_cond29 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_564 : BitVec 32 := 4#32
  let v870 : BitVec 1 := Scalar.cmpi .ne v2 c4_i32_564
  let v871 : BitVec 32 := Scalar.extui v870
  let c0_i32_565 : BitVec 32 := 0#32
  let v872 : BitVec 1 := Scalar.cmpi .ne v871 c0_i32_565
  v872

def k0_off27 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off28 (d0 : Dev nD) : Fin 3 → Nat :=
  let c0_i32_610 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_605 : BitVec 32 := 64#32
  let v931 : BitVec 32 := Scalar.muli v2 c64_i32_605
  let c0_i32_611 : BitVec 32 := 0#32
  ![0, v931.toNat, 0]
def k0_dev21 : Nat :=
  let c0_i32_609 : BitVec 32 := 0#32
  let c4_i32_607 : BitVec 32 := 4#32
  let c1_i32_608 : BitVec 32 := 1#32
  let v932 : BitVec 32 := Scalar.muli c4_i32_607 c1_i32_608
  let v933 : BitVec 32 := Scalar.addi c0_i32_609 v932
  v933.toNat
def k0_cond30 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_566 : BitVec 32 := 5#32
  let v873 : BitVec 1 := Scalar.cmpi .ne v2 c5_i32_566
  let v874 : BitVec 32 := Scalar.extui v873
  let c0_i32_567 : BitVec 32 := 0#32
  let v875 : BitVec 1 := Scalar.cmpi .ne v874 c0_i32_567
  v875

def k0_off29 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off30 (d0 : Dev nD) : Fin 3 → Nat :=
  let c0_i32_610 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_605 : BitVec 32 := 64#32
  let v931 : BitVec 32 := Scalar.muli v2 c64_i32_605
  let c0_i32_611 : BitVec 32 := 0#32
  ![0, v931.toNat, 0]
def k0_dev22 : Nat :=
  let c0_i32_609 : BitVec 32 := 0#32
  let c5_i32_607 : BitVec 32 := 5#32
  let c1_i32_608 : BitVec 32 := 1#32
  let v932 : BitVec 32 := Scalar.muli c5_i32_607 c1_i32_608
  let v933 : BitVec 32 := Scalar.addi c0_i32_609 v932
  v933.toNat
def k0_cond31 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_568 : BitVec 32 := 6#32
  let v876 : BitVec 1 := Scalar.cmpi .ne v2 c6_i32_568
  let v877 : BitVec 32 := Scalar.extui v876
  let c0_i32_569 : BitVec 32 := 0#32
  let v878 : BitVec 1 := Scalar.cmpi .ne v877 c0_i32_569
  v878

def k0_off31 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off32 (d0 : Dev nD) : Fin 3 → Nat :=
  let c0_i32_610 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_605 : BitVec 32 := 64#32
  let v931 : BitVec 32 := Scalar.muli v2 c64_i32_605
  let c0_i32_611 : BitVec 32 := 0#32
  ![0, v931.toNat, 0]
def k0_dev23 : Nat :=
  let c0_i32_609 : BitVec 32 := 0#32
  let c6_i32_607 : BitVec 32 := 6#32
  let c1_i32_608 : BitVec 32 := 1#32
  let v932 : BitVec 32 := Scalar.muli c6_i32_607 c1_i32_608
  let v933 : BitVec 32 := Scalar.addi c0_i32_609 v932
  v933.toNat
def k0_cond32 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_570 : BitVec 32 := 7#32
  let v879 : BitVec 1 := Scalar.cmpi .ne v2 c7_i32_570
  let v880 : BitVec 32 := Scalar.extui v879
  let c0_i32_571 : BitVec 32 := 0#32
  let v881 : BitVec 1 := Scalar.cmpi .ne v880 c0_i32_571
  v881

def k0_off33 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off34 (d0 : Dev nD) : Fin 3 → Nat :=
  let c0_i32_610 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_605 : BitVec 32 := 64#32
  let v931 : BitVec 32 := Scalar.muli v2 c64_i32_605
  let c0_i32_611 : BitVec 32 := 0#32
  ![0, v931.toNat, 0]
def k0_dev24 : Nat :=
  let c0_i32_609 : BitVec 32 := 0#32
  let c7_i32_607 : BitVec 32 := 7#32
  let c1_i32_608 : BitVec 32 := 1#32
  let v932 : BitVec 32 := Scalar.muli c7_i32_607 c1_i32_608
  let v933 : BitVec 32 := Scalar.addi c0_i32_609 v932
  v933.toNat
def k0_cond41 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_588 : BitVec 32 := 0#32
  let v906 : BitVec 1 := Scalar.cmpi .ne v2 c0_i32_588
  let v907 : BitVec 32 := Scalar.extui v906
  let c0_i32_589 : BitVec 32 := 0#32
  let v908 : BitVec 1 := Scalar.cmpi .ne v907 c0_i32_589
  v908

def k0_off35 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_610 : BitVec 32 := 0#32
  let c0_i32_611 : BitVec 32 := 0#32
  let c0_i32_612 : BitVec 32 := 0#32
  ![v2.toNat, 0, 0, 0]
def k0_off36 (d0 : Dev nD) : Fin 3 → Nat :=
  let c0_i32_618 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_613 : BitVec 32 := 64#32
  let v935 : BitVec 32 := Scalar.muli v2 c64_i32_613
  let c0_i32_619 : BitVec 32 := 0#32
  ![0, v935.toNat, 0]
def k0_cond42 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_590 : BitVec 32 := 1#32
  let v909 : BitVec 1 := Scalar.cmpi .ne v2 c1_i32_590
  let v910 : BitVec 32 := Scalar.extui v909
  let c0_i32_591 : BitVec 32 := 0#32
  let v911 : BitVec 1 := Scalar.cmpi .ne v910 c0_i32_591
  v911

def k0_off37 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_610 : BitVec 32 := 0#32
  let c0_i32_611 : BitVec 32 := 0#32
  let c0_i32_612 : BitVec 32 := 0#32
  ![v2.toNat, 0, 0, 0]
def k0_off38 (d0 : Dev nD) : Fin 3 → Nat :=
  let c0_i32_618 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_613 : BitVec 32 := 64#32
  let v935 : BitVec 32 := Scalar.muli v2 c64_i32_613
  let c0_i32_619 : BitVec 32 := 0#32
  ![0, v935.toNat, 0]
def k0_cond43 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_592 : BitVec 32 := 2#32
  let v912 : BitVec 1 := Scalar.cmpi .ne v2 c2_i32_592
  let v913 : BitVec 32 := Scalar.extui v912
  let c0_i32_593 : BitVec 32 := 0#32
  let v914 : BitVec 1 := Scalar.cmpi .ne v913 c0_i32_593
  v914

def k0_off39 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_609 : BitVec 32 := 0#32
  let c0_i32_610 : BitVec 32 := 0#32
  let c0_i32_611 : BitVec 32 := 0#32
  ![v2.toNat, 0, 0, 0]
def k0_off40 (d0 : Dev nD) : Fin 3 → Nat :=
  let c0_i32_617 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_612 : BitVec 32 := 64#32
  let v935 : BitVec 32 := Scalar.muli v2 c64_i32_612
  let c0_i32_618 : BitVec 32 := 0#32
  ![0, v935.toNat, 0]
def k0_cond44 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_594 : BitVec 32 := 3#32
  let v915 : BitVec 1 := Scalar.cmpi .ne v2 c3_i32_594
  let v916 : BitVec 32 := Scalar.extui v915
  let c0_i32_595 : BitVec 32 := 0#32
  let v917 : BitVec 1 := Scalar.cmpi .ne v916 c0_i32_595
  v917

def k0_off41 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_609 : BitVec 32 := 0#32
  let c0_i32_610 : BitVec 32 := 0#32
  let c0_i32_611 : BitVec 32 := 0#32
  ![v2.toNat, 0, 0, 0]
def k0_off42 (d0 : Dev nD) : Fin 3 → Nat :=
  let c0_i32_617 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_612 : BitVec 32 := 64#32
  let v935 : BitVec 32 := Scalar.muli v2 c64_i32_612
  let c0_i32_618 : BitVec 32 := 0#32
  ![0, v935.toNat, 0]
def k0_cond45 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_596 : BitVec 32 := 4#32
  let v918 : BitVec 1 := Scalar.cmpi .ne v2 c4_i32_596
  let v919 : BitVec 32 := Scalar.extui v918
  let c0_i32_597 : BitVec 32 := 0#32
  let v920 : BitVec 1 := Scalar.cmpi .ne v919 c0_i32_597
  v920

def k0_off43 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_609 : BitVec 32 := 0#32
  let c0_i32_610 : BitVec 32 := 0#32
  let c0_i32_611 : BitVec 32 := 0#32
  ![v2.toNat, 0, 0, 0]
def k0_off44 (d0 : Dev nD) : Fin 3 → Nat :=
  let c0_i32_617 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_612 : BitVec 32 := 64#32
  let v935 : BitVec 32 := Scalar.muli v2 c64_i32_612
  let c0_i32_618 : BitVec 32 := 0#32
  ![0, v935.toNat, 0]
def k0_cond46 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_598 : BitVec 32 := 5#32
  let v921 : BitVec 1 := Scalar.cmpi .ne v2 c5_i32_598
  let v922 : BitVec 32 := Scalar.extui v921
  let c0_i32_599 : BitVec 32 := 0#32
  let v923 : BitVec 1 := Scalar.cmpi .ne v922 c0_i32_599
  v923

def k0_off45 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_609 : BitVec 32 := 0#32
  let c0_i32_610 : BitVec 32 := 0#32
  let c0_i32_611 : BitVec 32 := 0#32
  ![v2.toNat, 0, 0, 0]
def k0_off46 (d0 : Dev nD) : Fin 3 → Nat :=
  let c0_i32_617 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_612 : BitVec 32 := 64#32
  let v935 : BitVec 32 := Scalar.muli v2 c64_i32_612
  let c0_i32_618 : BitVec 32 := 0#32
  ![0, v935.toNat, 0]
def k0_cond47 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_600 : BitVec 32 := 6#32
  let v924 : BitVec 1 := Scalar.cmpi .ne v2 c6_i32_600
  let v925 : BitVec 32 := Scalar.extui v924
  let c0_i32_601 : BitVec 32 := 0#32
  let v926 : BitVec 1 := Scalar.cmpi .ne v925 c0_i32_601
  v926

def k0_off47 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_609 : BitVec 32 := 0#32
  let c0_i32_610 : BitVec 32 := 0#32
  let c0_i32_611 : BitVec 32 := 0#32
  ![v2.toNat, 0, 0, 0]
def k0_off48 (d0 : Dev nD) : Fin 3 → Nat :=
  let c0_i32_617 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_612 : BitVec 32 := 64#32
  let v935 : BitVec 32 := Scalar.muli v2 c64_i32_612
  let c0_i32_618 : BitVec 32 := 0#32
  ![0, v935.toNat, 0]
def k0_cond48 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_602 : BitVec 32 := 7#32
  let v927 : BitVec 1 := Scalar.cmpi .ne v2 c7_i32_602
  let v928 : BitVec 32 := Scalar.extui v927
  let c0_i32_603 : BitVec 32 := 0#32
  let v929 : BitVec 1 := Scalar.cmpi .ne v928 c0_i32_603
  v929

def k0_off49 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_609 : BitVec 32 := 0#32
  let c0_i32_610 : BitVec 32 := 0#32
  let c0_i32_611 : BitVec 32 := 0#32
  ![v2.toNat, 0, 0, 0]
def k0_off50 (d0 : Dev nD) : Fin 3 → Nat :=
  let c0_i32_617 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_612 : BitVec 32 := 64#32
  let v935 : BitVec 32 := Scalar.muli v2 c64_i32_612
  let c0_i32_618 : BitVec 32 := 0#32
  ![0, v935.toNat, 0]
abbrev stage0_0 : Fin 1 → Memref sig .tc .vmem S2x512x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x512x8x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x512x8x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x512x768 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S2x512x768 : Shape := ⟨3, ![2, 512, 768]⟩
abbrev S768x4096 : Shape := ⟨2, ![768, 4096]⟩
abbrev S2x512x64x64 : Shape := ⟨4, ![2, 512, 64, 64]⟩
abbrev S4096x768 : Shape := ⟨2, ![4096, 768]⟩
abbrev S2x512x4096 : Shape := ⟨3, ![2, 512, 4096]⟩
abbrev S512 : Shape := ⟨1, ![512]⟩
abbrev S_ : Shape := ⟨0, ![]⟩
abbrev S512x1 : Shape := ⟨2, ![512, 1]⟩
abbrev S1x512 : Shape := ⟨2, ![1, 512]⟩
abbrev S512x512 : Shape := ⟨2, ![512, 512]⟩
abbrev S2x64x512x512 : Shape := ⟨4, ![2, 64, 512, 512]⟩
abbrev S1x1x512x512 : Shape := ⟨4, ![1, 1, 512, 512]⟩
abbrev S2x64x512 : Shape := ⟨3, ![2, 64, 512]⟩
abbrev S2x64x512x1 : Shape := ⟨4, ![2, 64, 512, 1]⟩
abbrev S1x1x512x1 : Shape := ⟨4, ![1, 1, 512, 1]⟩
abbrev S2x64x64x512 : Shape := ⟨4, ![2, 64, 64, 512]⟩

abbrev nBuf : Space → Nat
  | .hbm => 143
  | .vmem => 0
  | .smem => 0
  | _ => 0

abbrev hbmTy0_0 (i : Nat) : BufTy := match i % 128 with
  | 0 => ⟨S2x512x768, .bf16⟩
  | 1 => ⟨S768x4096, .bf16⟩
  | 2 => ⟨S2x512x64x64, .bf16⟩
  | 3 => ⟨S2x512x64x64, .bf16⟩
  | 4 => ⟨S4096x768, .bf16⟩
  | 5 => ⟨S2x512x4096, .f32⟩
  | 6 => ⟨S2x512x4096, .bf16⟩
  | 7 => ⟨S2x512x64x64, .bf16⟩
  | 8 => ⟨S512, .i32⟩
  | 9 => ⟨S_, .i32⟩
  | 10 => ⟨S_, .i32⟩
  | 11 => ⟨S512, .i32⟩
  | 12 => ⟨S512, .i32⟩
  | 13 => ⟨S512, .i32⟩
  | 14 => ⟨S_, .i32⟩
  | 15 => ⟨S512, .i32⟩
  | 16 => ⟨S512, .i1⟩
  | 17 => ⟨S512, .i32⟩
  | 18 => ⟨S512, .i32⟩
  | 19 => ⟨S_, .i32⟩
  | 20 => ⟨S512, .i32⟩
  | 21 => ⟨S512, .i1⟩
  | 22 => ⟨S512, .i1⟩
  | 23 => ⟨S_, .i32⟩
  | 24 => ⟨S512, .i32⟩
  | 25 => ⟨S512, .i32⟩
  | 26 => ⟨S512, .i32⟩
  | 27 => ⟨S512x1, .i32⟩
  | 28 => ⟨S512, .i32⟩
  | 29 => ⟨S_, .i32⟩
  | 30 => ⟨S_, .i32⟩
  | 31 => ⟨S512, .i32⟩
  | 32 => ⟨S512, .i32⟩
  | 33 => ⟨S512, .i32⟩
  | 34 => ⟨S_, .i32⟩
  | 35 => ⟨S512, .i32⟩
  | 36 => ⟨S512, .i1⟩
  | 37 => ⟨S512, .i32⟩
  | 38 => ⟨S512, .i32⟩
  | 39 => ⟨S_, .i32⟩
  | 40 => ⟨S512, .i32⟩
  | 41 => ⟨S512, .i1⟩
  | 42 => ⟨S512, .i1⟩
  | 43 => ⟨S_, .i32⟩
  | 44 => ⟨S512, .i32⟩
  | 45 => ⟨S512, .i32⟩
  | 46 => ⟨S512, .i32⟩
  | 47 => ⟨S1x512, .i32⟩
  | 48 => ⟨S512x512, .i32⟩
  | 49 => ⟨S512x512, .i32⟩
  | 50 => ⟨S512x512, .i1⟩
  | 51 => ⟨S_, .i32⟩
  | 52 => ⟨S_, .i32⟩
  | 53 => ⟨S_, .i32⟩
  | 54 => ⟨S_, .i1⟩
  | 55 => ⟨S_, .i32⟩
  | 56 => ⟨S_, .i32⟩
  | 57 => ⟨S1x512, .i32⟩
  | 58 => ⟨S1x512, .i32⟩
  | 59 => ⟨S_, .i32⟩
  | 60 => ⟨S1x512, .i32⟩
  | 61 => ⟨S1x512, .i1⟩
  | 62 => ⟨S_, .i32⟩
  | 63 => ⟨S1x512, .i32⟩
  | 64 => ⟨S1x512, .i1⟩
  | 65 => ⟨S_, .i32⟩
  | 66 => ⟨S_, .i1⟩
  | 67 => ⟨S1x512, .i1⟩
  | 68 => ⟨S1x512, .i1⟩
  | 69 => ⟨S1x512, .i1⟩
  | 70 => ⟨S1x512, .i32⟩
  | 71 => ⟨S1x512, .i32⟩
  | 72 => ⟨S1x512, .i32⟩
  | 73 => ⟨S_, .i32⟩
  | 74 => ⟨S_, .i32⟩
  | 75 => ⟨S_, .i32⟩
  | 76 => ⟨S_, .i1⟩
  | 77 => ⟨S_, .i32⟩
  | 78 => ⟨S_, .i32⟩
  | 79 => ⟨S512x1, .i32⟩
  | 80 => ⟨S512x1, .i32⟩
  | 81 => ⟨S_, .i32⟩
  | 82 => ⟨S512x1, .i32⟩
  | 83 => ⟨S512x1, .i1⟩
  | 84 => ⟨S_, .i32⟩
  | 85 => ⟨S512x1, .i32⟩
  | 86 => ⟨S512x1, .i1⟩
  | 87 => ⟨S_, .i32⟩
  | 88 => ⟨S_, .i1⟩
  | 89 => ⟨S512x1, .i1⟩
  | 90 => ⟨S512x1, .i1⟩
  | 91 => ⟨S512x1, .i1⟩
  | 92 => ⟨S512x1, .i32⟩
  | 93 => ⟨S512x1, .i32⟩
  | 94 => ⟨S512x1, .i32⟩
  | 95 => ⟨S512x512, .i32⟩
  | 96 => ⟨S512x512, .i32⟩
  | 97 => ⟨S512x512, .i1⟩
  | 98 => ⟨S512x512, .i1⟩
  | 99 => ⟨S2x64x512x512, .f32⟩
  | 100 => ⟨S2x64x512x512, .bf16⟩
  | 101 => ⟨S2x64x512x512, .f32⟩
  | 102 => ⟨S_, .f32⟩
  | 103 => ⟨S2x64x512x512, .f32⟩
  | 104 => ⟨S2x64x512x512, .f32⟩
  | 105 => ⟨S1x1x512x512, .i1⟩
  | 106 => ⟨S_, .f32⟩
  | 107 => ⟨S_, .f32⟩
  | 108 => ⟨S2x64x512x512, .i1⟩
  | 109 => ⟨S2x64x512x512, .f32⟩
  | 110 => ⟨S2x64x512x512, .f32⟩
  | 111 => ⟨S_, .f32⟩
  | 112 => ⟨S2x64x512, .f32⟩
  | 113 => ⟨S2x64x512x1, .f32⟩
  | 114 => ⟨S2x64x512x512, .f32⟩
  | 115 => ⟨S2x64x512x512, .f32⟩
  | 116 => ⟨S2x64x512x512, .f32⟩
  | 117 => ⟨S_, .i1⟩
  | 118 => ⟨S512, .i1⟩
  | 119 => ⟨S1x1x512x1, .i1⟩
  | 120 => ⟨S_, .f32⟩
  | 121 => ⟨S2x64x512, .f32⟩
  | 122 => ⟨S2x64x512x1, .f32⟩
  | 123 => ⟨S_, .f32⟩
  | 124 => ⟨S_, .f32⟩
  | 125 => ⟨S2x64x512x1, .i1⟩
  | 126 => ⟨S2x64x512x1, .f32⟩
  | 127 => ⟨S2x64x512x1, .f32⟩
  | _ => ⟨S2x512x768, .bf16⟩

abbrev hbmTy0_1 (i : Nat) : BufTy := match i % 128 with
  | 0 => ⟨S2x64x512x512, .f32⟩
  | 1 => ⟨S2x64x512x512, .f32⟩
  | 2 => ⟨S1x1x512x1, .i1⟩
  | 3 => ⟨S_, .f32⟩
  | 4 => ⟨S_, .f32⟩
  | 5 => ⟨S2x64x512x512, .i1⟩
  | 6 => ⟨S2x64x512x512, .f32⟩
  | 7 => ⟨S2x64x512x512, .f32⟩
  | 8 => ⟨S2x512x64x64, .f32⟩
  | 9 => ⟨S2x64x64x512, .f32⟩
  | 10 => ⟨S2x512x64x64, .f32⟩
  | 11 => ⟨S2x512x4096, .f32⟩
  | 12 => ⟨S4096x768, .f32⟩
  | 13 => ⟨S2x512x768, .f32⟩
  | 14 => ⟨S2x512x768, .bf16⟩
  | _ => ⟨S2x512x768, .bf16⟩

abbrev hbmTy (i : Nat) : BufTy := match i / 128 with
  | 0 => hbmTy0_0 i
  | 1 => hbmTy0_1 i
  | _ => ⟨S2x512x768, .bf16⟩

abbrev bufTy : (tb : Table) → Fin (tcTables nBuf tb) → BufTy
  | .hbm, ⟨i, _⟩ => hbmTy i
  | _, _ => ⟨S2x512x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_c_0 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_c : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_0 : Ref sig .tc := ⟨.hbm, 43, rfl⟩
abbrev main_call1_v12 : Ref sig .tc := ⟨.hbm, 44, rfl⟩
abbrev main_call1_v13 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_c_1 : Ref sig .tc := ⟨.hbm, 51, rfl⟩
abbrev main_call2_v0 : Ref sig .tc := ⟨.hbm, 52, rfl⟩
abbrev main_call2_c : Ref sig .tc := ⟨.hbm, 53, rfl⟩
abbrev main_call2_v1 : Ref sig .tc := ⟨.hbm, 54, rfl⟩
abbrev main_call2_c_0 : Ref sig .tc := ⟨.hbm, 55, rfl⟩
abbrev main_call2_v2 : Ref sig .tc := ⟨.hbm, 56, rfl⟩
abbrev main_call2_v3 : Ref sig .tc := ⟨.hbm, 57, rfl⟩
abbrev main_call2_v4 : Ref sig .tc := ⟨.hbm, 58, rfl⟩
abbrev main_call2_c_1 : Ref sig .tc := ⟨.hbm, 59, rfl⟩
abbrev main_call2_v5 : Ref sig .tc := ⟨.hbm, 60, rfl⟩
abbrev main_call2_v6 : Ref sig .tc := ⟨.hbm, 61, rfl⟩
abbrev main_call2_c_2 : Ref sig .tc := ⟨.hbm, 62, rfl⟩
abbrev main_call2_v7 : Ref sig .tc := ⟨.hbm, 63, rfl⟩
abbrev main_call2_v8 : Ref sig .tc := ⟨.hbm, 64, rfl⟩
abbrev main_call2_c_3 : Ref sig .tc := ⟨.hbm, 65, rfl⟩
abbrev main_call2_v9 : Ref sig .tc := ⟨.hbm, 66, rfl⟩
abbrev main_call2_v10 : Ref sig .tc := ⟨.hbm, 67, rfl⟩
abbrev main_call2_v11 : Ref sig .tc := ⟨.hbm, 68, rfl⟩
abbrev main_call2_v12 : Ref sig .tc := ⟨.hbm, 69, rfl⟩
abbrev main_call2_v13 : Ref sig .tc := ⟨.hbm, 70, rfl⟩
abbrev main_call2_v14 : Ref sig .tc := ⟨.hbm, 71, rfl⟩
abbrev main_v12 : Ref sig .tc := ⟨.hbm, 72, rfl⟩
abbrev main_c_2 : Ref sig .tc := ⟨.hbm, 73, rfl⟩
abbrev main_call3_v0 : Ref sig .tc := ⟨.hbm, 74, rfl⟩
abbrev main_call3_c : Ref sig .tc := ⟨.hbm, 75, rfl⟩
abbrev main_call3_v1 : Ref sig .tc := ⟨.hbm, 76, rfl⟩
abbrev main_call3_c_0 : Ref sig .tc := ⟨.hbm, 77, rfl⟩
abbrev main_call3_v2 : Ref sig .tc := ⟨.hbm, 78, rfl⟩
abbrev main_call3_v3 : Ref sig .tc := ⟨.hbm, 79, rfl⟩
abbrev main_call3_v4 : Ref sig .tc := ⟨.hbm, 80, rfl⟩
abbrev main_call3_c_1 : Ref sig .tc := ⟨.hbm, 81, rfl⟩
abbrev main_call3_v5 : Ref sig .tc := ⟨.hbm, 82, rfl⟩
abbrev main_call3_v6 : Ref sig .tc := ⟨.hbm, 83, rfl⟩
abbrev main_call3_c_2 : Ref sig .tc := ⟨.hbm, 84, rfl⟩
abbrev main_call3_v7 : Ref sig .tc := ⟨.hbm, 85, rfl⟩
abbrev main_call3_v8 : Ref sig .tc := ⟨.hbm, 86, rfl⟩
abbrev main_call3_c_3 : Ref sig .tc := ⟨.hbm, 87, rfl⟩
abbrev main_call3_v9 : Ref sig .tc := ⟨.hbm, 88, rfl⟩
abbrev main_call3_v10 : Ref sig .tc := ⟨.hbm, 89, rfl⟩
abbrev main_call3_v11 : Ref sig .tc := ⟨.hbm, 90, rfl⟩
abbrev main_call3_v12 : Ref sig .tc := ⟨.hbm, 91, rfl⟩
abbrev main_call3_v13 : Ref sig .tc := ⟨.hbm, 92, rfl⟩
abbrev main_call3_v14 : Ref sig .tc := ⟨.hbm, 93, rfl⟩
abbrev main_v13 : Ref sig .tc := ⟨.hbm, 94, rfl⟩
abbrev main_v14 : Ref sig .tc := ⟨.hbm, 95, rfl⟩
abbrev main_v15 : Ref sig .tc := ⟨.hbm, 96, rfl⟩
abbrev main_v16 : Ref sig .tc := ⟨.hbm, 97, rfl⟩
abbrev main_v17 : Ref sig .tc := ⟨.hbm, 98, rfl⟩
abbrev main_v18 : Ref sig .tc := ⟨.hbm, 99, rfl⟩
abbrev main_v19 : Ref sig .tc := ⟨.hbm, 100, rfl⟩
abbrev main_v20 : Ref sig .tc := ⟨.hbm, 101, rfl⟩
abbrev main_cst : Ref sig .tc := ⟨.hbm, 102, rfl⟩
abbrev main_v21 : Ref sig .tc := ⟨.hbm, 103, rfl⟩
abbrev main_v22 : Ref sig .tc := ⟨.hbm, 104, rfl⟩
abbrev main_v23 : Ref sig .tc := ⟨.hbm, 105, rfl⟩
abbrev main_cst_3 : Ref sig .tc := ⟨.hbm, 106, rfl⟩
abbrev main_call4_v0 : Ref sig .tc := ⟨.hbm, 107, rfl⟩
abbrev main_call4_v1 : Ref sig .tc := ⟨.hbm, 108, rfl⟩
abbrev main_call4_v2 : Ref sig .tc := ⟨.hbm, 109, rfl⟩
abbrev main_v24 : Ref sig .tc := ⟨.hbm, 110, rfl⟩
abbrev main_cst_4 : Ref sig .tc := ⟨.hbm, 111, rfl⟩
abbrev main_v25 : Ref sig .tc := ⟨.hbm, 112, rfl⟩
abbrev main_v26 : Ref sig .tc := ⟨.hbm, 113, rfl⟩
abbrev main_v27 : Ref sig .tc := ⟨.hbm, 114, rfl⟩
abbrev main_v28 : Ref sig .tc := ⟨.hbm, 115, rfl⟩
abbrev main_v29 : Ref sig .tc := ⟨.hbm, 116, rfl⟩
abbrev main_c_5 : Ref sig .tc := ⟨.hbm, 117, rfl⟩
abbrev main_v30 : Ref sig .tc := ⟨.hbm, 118, rfl⟩
abbrev main_v31 : Ref sig .tc := ⟨.hbm, 119, rfl⟩
abbrev main_cst_6 : Ref sig .tc := ⟨.hbm, 120, rfl⟩
abbrev main_v32 : Ref sig .tc := ⟨.hbm, 121, rfl⟩
abbrev main_v33 : Ref sig .tc := ⟨.hbm, 122, rfl⟩
abbrev main_cst_7 : Ref sig .tc := ⟨.hbm, 123, rfl⟩
abbrev main_call5_v0 : Ref sig .tc := ⟨.hbm, 124, rfl⟩
abbrev main_call5_v1 : Ref sig .tc := ⟨.hbm, 125, rfl⟩
abbrev main_call5_v2 : Ref sig .tc := ⟨.hbm, 126, rfl⟩
abbrev main_v34 : Ref sig .tc := ⟨.hbm, 127, rfl⟩
abbrev main_v35 : Ref sig .tc := ⟨.hbm, 128, rfl⟩
abbrev main_v36 : Ref sig .tc := ⟨.hbm, 129, rfl⟩
abbrev main_v37 : Ref sig .tc := ⟨.hbm, 130, rfl⟩
abbrev main_cst_8 : Ref sig .tc := ⟨.hbm, 131, rfl⟩
abbrev main_call6_v0 : Ref sig .tc := ⟨.hbm, 132, rfl⟩
abbrev main_call6_v1 : Ref sig .tc := ⟨.hbm, 133, rfl⟩
abbrev main_call6_v2 : Ref sig .tc := ⟨.hbm, 134, rfl⟩
abbrev main_v38 : Ref sig .tc := ⟨.hbm, 135, rfl⟩
abbrev main_v39 : Ref sig .tc := ⟨.hbm, 136, rfl⟩
abbrev main_v40 : Ref sig .tc := ⟨.hbm, 137, rfl⟩
abbrev main_v41 : Ref sig .tc := ⟨.hbm, 138, rfl⟩
abbrev main_v42 : Ref sig .tc := ⟨.hbm, 139, rfl⟩
abbrev main_v43 : Ref sig .tc := ⟨.hbm, 140, rfl⟩
abbrev main_v44 : Ref sig .tc := ⟨.hbm, 141, rfl⟩
abbrev main_v45 : Ref sig .tc := ⟨.hbm, 142, rfl⟩

abbrev nD : Nat := 1
abbrev τ : Topo := Topo.v7x

variable {F : FTy → Type} [FloatOps F]
-- ==== Proof.Spec.lean ====
/-
What one device computes, as functions of its five staged inputs.

The kernel works one batch row, one half of the query rows and one head at a time. `headOut` is one such step: the
softmax-weighted sum of the head's value rows for 256 query rows. The context array `ctxV` collects the steps, `accV`
is its product with the device's rows of `Wo`, `stgV` gathers the eight devices' partial products for one chunk of 64
rows, `redV` adds them, and `outV` is the whole result.
-/
module

public import proofs.«01_k».proof.Proof.Gen.KernelIdeal
public import proofs.«01_k».proof.Proof.Gen.KernelIdeal.Skeleton
public import Idealize.ShloMosaic.Lib.ValueIdxCore
public import Idealize.ShloMosaic.Lib.ViewIndex

@[expose] public section

set_option maxRecDepth 16384

noncomputable section

namespace Cert.K

open Cert.KernelIdeal Cert.KernelIdeal.Gen
open Idealize.ShloMosaic Idealize.ShloMosaic.ValueIdx

variable {F : FTy → Type} [FloatOps F] [Named F]

theorem slices_q (half : Fin 2) (h : Fin 8) : S512x512.Slices ![256 * half.val, 64 * h.val] S256x64 := by
  revert half h; decide
theorem slices_b (half : Fin 2) : S512x512.Slices ![256 * half.val, 0] S256x512 := by
  revert half; decide

/-- One head for 256 query rows: exponentials of the biased scores, their weighted sum of the value rows, divided by their sum. -/
def headOut (bias : FVec F S512x512 .f32) (q : FVec F S512x512 .bf16) (k v : Vec F S1x512x1x64 .bf16) (half : Fin 2) (h : Fin 8) :
    FVec F S1x256x64 .bf16 :=
  let k' : FVec F S512x64 .bf16 := shapeCast S512x64 k shapeCasts_S1x512x1x64_S512x64
  let q' : FVec F S256x64 .bf16 := extractStridedSlice S256x64 ![256 * half.val, 64 * h.val] q (slices_q half h)
  let s : FVec F S256x512 .f32 := matmul dot_S256x64_S512x64_S256x512_1_1_0_0_n_n none q' k' (constant S256x512 .f32 0x00000000#32)
  let b' : FVec F S256x512 .f32 := extractStridedSlice S256x512 ![256 * half.val, 0] bias (slices_b half)
  let w : FVec F S256x512 .bf16 := truncf .bf16 (exp (addf s b')) bitsLt_bf16_f32
  let d : FVec F S256 .f32 := multiReduction .add [1] S256 (extf .f32 w bitsLt_bf16_f32) 0x00000000#32 reduces_S256x512_S256 (.inl rfl) rfl
  let v' : FVec F S512x64 .bf16 := shapeCast S512x64 v shapeCasts_S1x512x1x64_S512x64
  let o : FVec F S256x64 .f32 := matmul dot_S256x512_S512x64_S256x64_1_0_0_1_n_n none w v' (constant S256x64 .f32 0x00000000#32)
  let e : FVec F S256x64 .f32 := broadcastTo S256x64 (shapeCast S256x1 d shapeCasts_S256_S256x1) broadcasts_S256x1_S256x64
  shapeCast S1x256x64 (truncf .bf16 (divf o e) bitsLt_bf16_f32) shapeCasts_S256x64_S1x256x64

/-- A device's staged inputs. -/
structure Ins (F : FTy → Type) where
  x : Vec F S2x512x768 .bf16
  wq : Vec F S768x512 .bf16
  k : Vec F S2x512x8x64 .bf16
  v : Vec F S2x512x8x64 .bf16
  wo : Vec F S512x768 .bf16

/-- One batch row of the hidden states. -/
def xBlk (f : Vec F S2x512x768 .bf16) (b : Fin 2) : Vec F S1x512x768 .bf16 := fun i => f (ix3 b (i 1) (i 2))
/-- One head of one batch row of the keys or the values. -/
def kBlk (f : Vec F S2x512x8x64 .bf16) (b : Fin 2) (h : Fin 8) : Vec F S1x512x1x64 .bf16 := fun i => f (ix4 b (i 1) h (i 3))

/-- The additive mask: zero where the row's and the column's blocks fall in the same class, the named constant elsewhere. -/
def biasV : FVec F S512x512 .f32 :=
  k0_pay4 (iota .tc S512x512 32 [1] iota_S512x512_d1_w32) (k0_pay1 (iota .tc S512x512 32 [0] iota_S512x512_d0_w32)) 64#32 (k0_pay2 (iota .tc S512x512 32 [1] iota_S512x512_d1_w32)) (k0_pay3 (iota .tc S512x512 32 [1] iota_S512x512_d1_w32))

variable (I : Ins F)

def Ins.wqs : FVec F S768x512 .bf16 := k0_pay5 I.wq
def Ins.q (b : Fin 2) : FVec F S512x512 .bf16 := k0_pay7 I.wqs (xBlk I.x b)
def Ins.wos : FVec F S512x768 .bf16 := k0_pay6 I.wo

def Ins.head (b half : Fin 2) (h : Fin 8) : FVec F S1x256x64 .bf16 :=
  headOut biasV (I.q b) (kBlk I.k b h) (kBlk I.v b h) half h

/-- The context array. -/
def ctxV : Vec F S2x512x512 .bf16 := fun i =>
  I.head (i 0) ⟨(i 1).val / 256, by have : (i 1).val < 512 := (i 1).isLt; omega⟩ ⟨(i 2).val / 64, by have : (i 2).val < 512 := (i 2).isLt; omega⟩
    (ix3 0 ⟨(i 1).val % 256, Nat.mod_lt _ (by decide)⟩ ⟨(i 2).val % 64, Nat.mod_lt _ (by decide)⟩)

/-- 256 of its rows. -/
def rowsOf (C : Vec F S2x512x512 .bf16) (b half : Fin 2) : Vec F S1x256x512 .bf16 := fun i =>
  C (ix3 b ⟨256 * half.val + (i 1).val, by have : (i 1).val < 256 := (i 1).isLt; omega⟩ (i 2))

def Ins.proj (b half : Fin 2) : FVec F S1x256x768 .bf16 := k0_pay22 I.wos (rowsOf (ctxV I) b half)

/-- The device's partial product. -/
def accV : Vec F S2x512x768 .bf16 := fun i =>
  I.proj (i 0) ⟨(i 1).val / 256, by have : (i 1).val < 512 := (i 1).isLt; omega⟩ (ix3 0 ⟨(i 1).val % 256, Nat.mod_lt _ (by decide)⟩ (i 2))

/-- Chunk `c` of each device's partial product. -/
def stgV (A : Dev nD → Vec F S2x512x768 .bf16) (c : Dev nD) : Vec F S8x2x64x768 .bf16 := fun i =>
  A (i 0) (ix3 (i 1) ⟨64 * c.val + (i 2).val, by have h2 : (i 2).val < 64 := (i 2).isLt; have := c.isLt; change c.val < 8 at this; omega⟩ (i 3))

def redV (A : Dev nD → Vec F S2x512x768 .bf16) (c : Dev nD) : Vec F S2x64x768 .bf16 := k0_pay71 (stgV A c)

/-- The result: chunk by chunk the sum over the devices. -/
def outV (A : Dev nD → Vec F S2x512x768 .bf16) : Vec F S2x512x768 .bf16 := fun i =>
  redV A (⟨(i 1).val / 64, by have h : (i 1).val < 512 := (i 1).isLt; change _ < 8; omega⟩ : Dev nD) (ix3 (i 0) ⟨(i 1).val % 64, Nat.mod_lt _ (by decide)⟩ (i 2))

/-! ## The places the kernel's rectangles name -/

theorem ctxV_at (b half : Fin 2) (h : Fin 8) (i : S2x512x512.Idx) (j : S1x256x64.Idx)
    (h0 : (i 0).val = b.val) (h1 : (i 1).val = 256 * half.val + (j 1).val) (h2 : (i 2).val = 64 * h.val + (j 2).val) :
    ctxV I i = I.head b half h j := by
  have b1 : (j 1).val < 256 := (j 1).isLt
  have b2 : (j 2).val < 64 := (j 2).isLt
  have b0 : (j 0).val < 1 := (j 0).isLt
  have e0 : i 0 = b := Fin.ext h0
  have e1 : (⟨(i 1).val / 256, by have : (i 1).val < 512 := (i 1).isLt; omega⟩ : Fin 2) = half := Fin.ext (by dsimp only; omega)
  have e2 : (⟨(i 2).val / 64, by have : (i 2).val < 512 := (i 2).isLt; omega⟩ : Fin 8) = h := Fin.ext (by dsimp only; omega)
  have ej : (ix3 0 ⟨(i 1).val % 256, Nat.mod_lt _ (by decide)⟩ ⟨(i 2).val % 64, Nat.mod_lt _ (by decide)⟩ : S1x256x64.Idx) = j := by
    refine Shape.idx3_ext (show 0 = (j 0).val by omega) (show (i 1).val % 256 = (j 1).val by omega) (show (i 2).val % 64 = (j 2).val by omega)
  unfold ctxV
  rw [e0, e1, e2, ej]

theorem accV_at (b half : Fin 2) (i : S2x512x768.Idx) (j : S1x256x768.Idx)
    (h0 : (i 0).val = b.val) (h1 : (i 1).val = 256 * half.val + (j 1).val) (h2 : (i 2).val = (j 2).val) :
    accV I i = I.proj b half j := by
  have b1 : (j 1).val < 256 := (j 1).isLt
  have b0 : (j 0).val < 1 := (j 0).isLt
  have e0 : i 0 = b := Fin.ext h0
  have e1 : (⟨(i 1).val / 256, by have : (i 1).val < 512 := (i 1).isLt; omega⟩ : Fin 2) = half := Fin.ext (by dsimp only; omega)
  have ej : (ix3 0 ⟨(i 1).val % 256, Nat.mod_lt _ (by decide)⟩ (i 2) : S1x256x768.Idx) = j := by
    refine Shape.idx3_ext (show 0 = (j 0).val by omega) (show (i 1).val % 256 = (j 1).val by omega) h2
  unfold accV
  rw [e0, e1, ej]

theorem outV_at (A : Dev nD → Vec F S2x512x768 .bf16) (c : Dev nD) (i : S2x512x768.Idx) (j : S2x64x768.Idx)
    (h0 : (i 0).val = (j 0).val) (h1 : (i 1).val = 64 * c.val + (j 1).val) (h2 : (i 2).val = (j 2).val) :
    outV A i = redV A c j := by
  have b1 : (j 1).val < 64 := (j 1).isLt
  have e1 : (⟨(i 1).val / 64, by have h : (i 1).val < 512 := (i 1).isLt; change _ < 8; omega⟩ : Dev nD) = c := Fin.ext (by dsimp only; omega)
  have ej : (ix3 (i 0) ⟨(i 1).val % 64, Nat.mod_lt _ (by decide)⟩ (i 2) : S2x64x768.Idx) = j := by
    refine Shape.idx3_ext h0 (show (i 1).val % 64 = (j 1).val by omega) h2
  unfold outV
  rw [e1, ej]

end Cert.K

end
-- ==== Proof.Protocol.lean ====
/-
The protocol of the kernel's eight devices.

Each device has one barrier cell and, for each of the four semaphore arrays (sends of the first exchange, landings of
the first exchange, sends of the second, landings of the second) and each device, one cell. The barrier cell of `c` is
paid once by every other device `d`; with its signal `d` hands `c` the places `c`'s transfers into `d` will write: slot
`c` of `d`'s staging buffer and chunk `c` of `d`'s result buffer. A landing cell hands its owner what landed; a send cell
hands back what was lent.
-/
module

public import proofs.«01_k».proof.Proof.Spec
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.ShareLeaves
public import Idealize.ShloMosaic.Lib.SparseCore.ProtocolKit
public import Idealize.ShloMosaic.Lib.ValueLayout

@[expose] public section

set_option maxRecDepth 16384

noncomputable section

namespace Cert.K

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.SparseCore.ProtocolKit

variable {F : FTy → Type} [FloatOps F] [Named F]

/-! ## Resources -/

/-- The protocol's duties are named by the paying device. -/
abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Cells -/

/-- The barrier semaphore of collective id 0. -/
abbrev barS : Sem sig := (SemArray.scalar (sig.barrier 0 rfl) : Sems sig S_).sem

/-- Entry `q` of semaphore array `k`. -/
def dsem (k : Fin 4) (q : Dev nD) : DmaSem sig :=
  ⟨6 + 8 * k.val + q.val, by have h : q.val < 8 := q.isLt; have := k.isLt; change _ < 38; omega⟩

/-- The array and the entry of a DMA semaphore, where it is one of the four arrays'. -/
def kq (s : DmaSem sig) : Option (Fin 4 × Dev nD) :=
  if h : 6 ≤ s.val then
    some (⟨(s.val - 6) / 8, by have : s.val < 38 := s.isLt; omega⟩, (⟨(s.val - 6) % 8, Nat.mod_lt _ (by decide)⟩ : Fin 8))
  else none

theorem kq_dsem (k : Fin 4) (q : Dev nD) : kq (dsem k q) = some (k, q) := by revert k q; decide

abbrev barCell (c : Dev nD) : GSem nD τ sig := ((c : Thread nD τ), .reg barS)
abbrev dCell (k : Fin 4) (c q : Dev nD) : GSem nD τ sig := ((c : Thread nD τ), .dma (dsem k q))

theorem dsem_inj {k k' : Fin 4} {q q' : Dev nD} (h : dsem k q = dsem k' q') : k = k' ∧ q = q' := by
  have := (kq_dsem k q).symm.trans ((congrArg kq h).trans (kq_dsem k' q'))
  simpa using this

/-! ## Places -/

abbrev accR : Memref sig .tc .vmem S2x512x768 .bf16 := Memref.whole cc0_scratch0
abbrev stgR : Memref sig .tc .vmem S8x2x64x768 .bf16 := Memref.whole cc0_scratch2
abbrev outR : Memref sig .tc .vmem S2x512x768 .bf16 := Memref.whole cc0_stg5_0

theorem inb_chunk (q : Dev nD) : ∀ a, (![0, 64 * q.val, 0] : Fin 3 → Nat) a + S2x64x768.size a ≤ S2x512x768.size a := by
  revert q; decide
theorem inb_slot (q : Dev nD) : ∀ a, (![q.val, 0, 0, 0] : Fin 4 → Nat) a + S1x2x64x768.size a ≤ S8x2x64x768.size a := by
  revert q; decide

/-- Chunk `q` of a whole array of rows; slot `q` of the staging buffer. -/
abbrev chunkOf (m : Memref sig .tc .vmem S2x512x768 .bf16) (q : Dev nD) : Memref sig .tc .vmem S2x64x768 .bf16 :=
  m.slice (Rect.unit (s := S2x512x768) ![0, 64 * q.val, 0] S2x64x768.size (inb_chunk q)) (fun _ => rfl)
abbrev slotOf (q : Dev nD) : Memref sig .tc .vmem S2x64x768 .bf16 :=
  (stgR.slice (Rect.unit (s := S8x2x64x768) ![q.val, 0, 0, 0] S1x2x64x768.size (inb_slot q)) (fun _ => rfl)).squeeze S2x64x768 squeezes_S1x2x64x768_S2x64x768

/-- The rows from `lo` up to `hi`. -/
def rowS (lo hi : ℕ) : Finset S2x512x768.Idx := Finset.univ.filter fun i => lo ≤ (i 1).val ∧ (i 1).val < hi
def slotS (d : Dev nD) : Finset S8x2x64x768.Idx := Finset.univ.filter fun i => (i 0).val = d.val
abbrev chunkS (d : Dev nD) : Finset S2x512x768.Idx := rowS (64 * d.val) (64 * d.val + 64)

theorem mem_rowS {lo hi : ℕ} {i : S2x512x768.Idx} : i ∈ rowS lo hi ↔ lo ≤ (i 1).val ∧ (i 1).val < hi := by
  unfold rowS; simp
theorem mem_slotS {d : Dev nD} {i : S8x2x64x768.Idx} : i ∈ slotS d ↔ (i 0).val = d.val := by
  unfold slotS; simp

theorem chunk_rect (q : Dev nD) : (Rect.unit (s := S2x512x768) ![0, 64 * q.val, 0] S2x64x768.size (inb_chunk q)).set = chunkS q := by
  ext i
  rw [Rect.mem_set_unit, mem_rowS]
  have h0 : (i 0).val < 2 := (i 0).isLt
  have h2 : (i 2).val < 768 := (i 2).isLt
  constructor
  · intro h; exact h 1
  · intro h a
    match a with
    | ⟨0, _⟩ => exact ⟨Nat.zero_le _, h0⟩
    | ⟨1, _⟩ => exact h
    | ⟨2, _⟩ => exact ⟨Nat.zero_le _, h2⟩

theorem slot_rect (q : Dev nD) : (Rect.unit (s := S8x2x64x768) ![q.val, 0, 0, 0] S1x2x64x768.size (inb_slot q)).set = slotS q := by
  ext i
  rw [Rect.mem_set_unit, mem_slotS]
  have h1 : (i 1).val < 2 := (i 1).isLt
  have h2 : (i 2).val < 64 := (i 2).isLt
  have h3 : (i 3).val < 768 := (i 3).isLt
  constructor
  · intro h; have := h 0; change q.val ≤ (i 0).val ∧ (i 0).val < q.val + 1 at this; omega
  · intro h a
    match a with
    | ⟨0, _⟩ => show q.val ≤ (i 0).val ∧ (i 0).val < q.val + 1; omega
    | ⟨1, _⟩ => exact ⟨Nat.zero_le _, h1⟩
    | ⟨2, _⟩ => exact ⟨Nat.zero_le _, h2⟩
    | ⟨3, _⟩ => exact ⟨Nat.zero_le _, h3⟩

theorem chunk_set_acc (q : Dev nD) : (chunkOf accR q).view.set = chunkS q :=
  (View.set_slice_whole cc0_scratch0 _).trans (chunk_rect q)
theorem chunk_set_out (q : Dev nD) : (chunkOf outR q).view.set = chunkS q :=
  (View.set_slice_whole cc0_stg5_0 _).trans (chunk_rect q)
theorem slot_set (q : Dev nD) : (slotOf q).view.set = slotS q :=
  (View.set_reshape _ _).trans ((View.set_slice_whole cc0_scratch2 _).trans (slot_rect q))

/-- What a transfer of one chunk credits. -/
abbrev N : ℕ := (slotOf 0).view.dmaCredit
theorem N_pos : 0 < N := View.dmaCredit_pos _ (by decide)

/-! ## Holdings -/

def accPts (c : Dev nD) (S : Finset S2x512x768.Idx) (f : Vec F S2x512x768 .bf16) : sProp 𝕄 :=
  ((c : Thread nD τ).loc cc0_scratch0) ↦[S]{fullShare} f
def slotPts (c d : Dev nD) (f : Vec F S8x2x64x768 .bf16) : sProp 𝕄 :=
  ((c : Thread nD τ).loc cc0_scratch2) ↦[slotS d]{fullShare} f
def outPts (c : Dev nD) (q : PosShare TreeShare) (S : Finset S2x512x768.Idx) (f : Vec F S2x512x768 .bf16) : sProp 𝕄 :=
  ((c : Thread nD τ).loc cc0_stg5_0) ↦[S]{q} f

omit [FloatOps F] [Named F] in
instance accPts_storable (c : Dev nD) (S) (f) : BI.Storable (upEmb : UEmb _ 𝕄) (accPts (F := F) c S f) := by unfold accPts; infer_instance
omit [FloatOps F] [Named F] in
instance slotPts_storable (c d : Dev nD) (f) : BI.Storable (upEmb : UEmb _ 𝕄) (slotPts (F := F) c d f) := by unfold slotPts; infer_instance
omit [FloatOps F] [Named F] in
instance outPts_storable (c : Dev nD) (q) (S) (f) : BI.Storable (upEmb : UEmb _ 𝕄) (outPts (F := F) c q S f) := by unfold outPts; infer_instance

/-- The share of its own chunk of the result that a device lends to its transfer to device `q`. -/
def lend (q : Dev nD) : PosShare TreeShare := ShareLeaves.leaf 3 fullShare q

/-- Where device `c`'s two transfers into device `d` land. -/
def land (c d : Dev nD) : sProp 𝕄 := iprop((∃ f, slotPts (F := F) d c f) ∗ (∃ f, outPts (F := F) d fullShare (chunkS c) f))

variable (A : Dev nD → Vec F S2x512x768 .bf16)

/-- What the credit of cell `(k, q)` of device `c` hands `c`. -/
def pay (k : Fin 4) (c q : Dev nD) : sProp 𝕄 :=
  match k with
  | 0 => accPts c (chunkS q) (A c)
  | 1 => slotPts c q (stgV A c)
  | 2 => outPts c (lend q) (chunkS c) (outV A)
  | 3 => outPts c fullShare (chunkS q) (outV A)

omit [Named F] in
instance land_storable (c d : Dev nD) : BI.Storable (upEmb : UEmb _ 𝕄) (land (F := F) c d) := by unfold land; infer_instance
instance pay_storable (k : Fin 4) (c q : Dev nD) : BI.Storable (upEmb : UEmb _ 𝕄) (pay A k c q) := by
  unfold pay; split <;> infer_instance

/-! ## The schedule: one round -/

def dutiesAt (c : Dev nD) : SemLoc sig → Finset (Dev nD)
  | .reg s => if s = barS then Finset.univ.erase c else ∅
  | .dma s => match kq s with
    | none => ∅
    | some (_, q) => if q = c then ∅ else {0}

def rd : Rounds.Schedule (GSem nD τ sig) (Dev nD) 𝕄 where
  duties g r := if r = 0 ∧ g.1.2 = .tc then dutiesAt g.1.1 g.2 else ∅
  unitless _ := False
  amount g _ _ := match g.2 with
    | .reg _ => 1
    | .dma _ => N
  payload g _ d := match g.2 with
    | .reg _ => land g.1.1 d
    | .dma s => match kq s with
      | none => iprop(emp)
      | some (k, q) => pay A k g.1.1 q
  amount_pos g _ _ _ := by
    match g.2 with
    | .reg _ => exact Nat.one_pos
    | .dma _ => exact N_pos

instance rd_payload_storable (g : GSem nD τ sig) (r : ℕ) (d : Dev nD) :
    BI.Storable (upEmb : UEmb _ 𝕄) ((rd A).payload g r d) := by
  unfold rd; dsimp only
  split
  · infer_instance
  · split <;> infer_instance

section Sched
variable (k : Fin 4) (c q : Dev nD)

theorem duties_bar : (rd A).duties (barCell c) 0 = Finset.univ.erase c := by
  unfold rd dutiesAt; dsimp only; rw [if_pos ⟨rfl, rfl⟩, if_pos rfl]
theorem duties_d (h : q ≠ c) : (rd A).duties (dCell k c q) 0 = {0} := by
  unfold rd dutiesAt; dsimp only; rw [if_pos ⟨rfl, rfl⟩, kq_dsem]; exact if_neg h
theorem duties_self : (rd A).duties (dCell k c c) 0 = ∅ := by
  unfold rd dutiesAt; dsimp only; rw [if_pos ⟨rfl, rfl⟩, kq_dsem]; exact if_pos rfl
theorem duties_later (g : GSem nD τ sig) (r : ℕ) (hr : 1 ≤ r) : (rd A).duties g r = ∅ := by
  unfold rd; dsimp only; rw [if_neg]; rintro ⟨h, -⟩; omega
theorem duties_self_all (r : ℕ) : (rd A).duties (dCell k c c) r = ∅ := by
  rcases Nat.eq_zero_or_pos r with rfl | h
  · exact duties_self A k c
  · exact duties_later A _ r h

theorem amount_bar (d : Dev nD) : (rd A).amount (barCell c) 0 d = 1 := rfl
theorem amount_d (d : Dev nD) : (rd A).amount (dCell k c q) 0 d = N := rfl

theorem expect_bar : (rd A).expect (barCell c) 0 = 7 := by
  unfold Schedule.expect Schedule.amountOf
  rw [duties_bar, Finset.sum_congr rfl fun d _ => amount_bar A c d, Finset.sum_const, Finset.card_erase_of_mem (Finset.mem_univ _), Finset.card_univ]
  rfl
theorem expect_d (h : q ≠ c) : (rd A).expect (dCell k c q) 0 = N := by
  unfold Schedule.expect Schedule.amountOf; rw [duties_d A k c q h, Finset.sum_singleton, amount_d]

theorem payload_bar (d : Dev nD) : (rd A).payload (barCell c) 0 d = land c d := rfl
theorem payload_d (d : Dev nD) : (rd A).payload (dCell k c q) 0 d = pay A k c q := by
  unfold rd; dsimp only; rw [kq_dsem]

theorem rest_bar : bigSep ((rd A).duties (barCell c) 0 \ ∅) (fun d => (rd A).payload (barCell c) 0 d) = bigSep (Finset.univ.erase c) (land (F := F) c) := by
  rw [Finset.sdiff_empty, duties_bar]
  exact bigSep_congr fun d _ => payload_bar A c d
theorem rest_d (h : q ≠ c) : bigSep ((rd A).duties (dCell k c q) 0 \ ∅) (fun d => (rd A).payload (dCell k c q) 0 d) = pay A k c q := by
  rw [Finset.sdiff_empty, duties_d A k c q h, bigSep_singleton, payload_d]

end Sched

/-! ## What a device owes, and the levels of the cells -/

abbrev TT : Type := CellTallies nD τ sig Unit

def dueBar (c q : Dev nD) : TT := if q = c then 0 else tallyAt (barCell q) () 1
/-- What device `c` owes the landing cell (`k` is 1 or 3) of device `q`. -/
def dueD (k : Fin 4) (c q : Dev nD) : TT := if q = c then 0 else tallyAt (dCell k q c) () N

def owedS2 (c : Dev nD) (n : ℕ) : TT := ∑ q ∈ finFrom 8 n, dueD 3 c q
def owedS1 (c : Dev nD) (n : ℕ) : TT := owedS2 c 0 + ∑ q ∈ finFrom 8 n, dueD 1 c q
def owedBar (c : Dev nD) (n : ℕ) : TT := owedS1 c 0 + ∑ q ∈ finFrom 8 n, dueBar c q
def O₀ (c : Dev nD) : TT := owedBar c 0

def L (g : GSem nD τ sig) : Finset Unit := if g.1.2 = .tc then {()} else ∅
/-- Barrier cells at 1, the first exchange's landing cells at 2, the second's at 3, everything else at 0. -/
def lvS : SemLoc sig → ℕ
  | .reg s => if s = barS then 1 else 0
  | .dma s => match kq s with
    | some (1, _) => 2
    | some (3, _) => 3
    | _ => 0
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl

theorem lv_d (k : Fin 4) (q : Dev nD) : lvS (.dma (dsem k q)) = match k with | 1 => 2 | 3 => 3 | _ => 0 := by
  revert k q; decide
theorem lv_bar : lvS (.reg barS) = 1 := by unfold lvS; exact if_pos rfl

theorem sum_pos_cell {S : Finset (Dev nD)} {f : Dev nD → TT} {g : GSem nD τ sig} {u : Unit} (h : 0 < (∑ q ∈ S, f q) g u) :
    ∃ q ∈ S, 0 < f q g u := by
  by_contra hn
  have : (∑ q ∈ S, f q) g u = 0 := by
    rw [Finset.sum_apply, Finsupp.finset_sum_apply]
    exact Finset.sum_eq_zero fun q hq => by
      by_contra h0; exact hn ⟨q, hq, Nat.pos_of_ne_zero h0⟩
  omega

theorem add_pos_cell {f f' : TT} {g : GSem nD τ sig} {u : Unit} (h : 0 < (f + f') g u) : 0 < f g u ∨ 0 < f' g u := by
  rw [Pi.add_apply, Finsupp.add_apply] at h; omega

theorem tally_pos {g g' : GSem nD τ sig} {u : Unit} {n : ℕ} (h : 0 < (tallyAt g' () n : TT) g u) : g = g' := by
  rw [tallyAt_apply] at h
  by_contra hn
  rw [if_neg fun h' => hn h'.1] at h
  exact Nat.lt_irrefl 0 h

theorem dueBar_pos {c q : Dev nD} {g : GSem nD τ sig} {u : Unit} (h : 0 < dueBar c q g u) : q ≠ c ∧ g = barCell q := by
  unfold dueBar at h
  split at h
  · exact absurd h (Nat.lt_irrefl 0)
  · exact ⟨‹_›, tally_pos h⟩
theorem dueD_pos {k : Fin 4} {c q : Dev nD} {g : GSem nD τ sig} {u : Unit} (h : 0 < dueD k c q g u) : q ≠ c ∧ g = dCell k q c := by
  unfold dueD at h
  split at h
  · exact absurd h (Nat.lt_irrefl 0)
  · exact ⟨‹_›, tally_pos h⟩

/-- The cells a debt names: on a TensorCore, at a level above `n`. -/
def Above (n : ℕ) (O : TT) : Prop := ∀ g u, 0 < O g u → g.1.2 = .tc ∧ n < lvS g.2

theorem above_zero (n : ℕ) : Above n 0 := fun g u h => absurd h (Nat.lt_irrefl 0)
theorem Above.add {n : ℕ} {O O' : TT} (h : Above n O) (h' : Above n O') : Above n (O + O') := fun g u hg =>
  (add_pos_cell hg).elim (h g u) (h' g u)
theorem Above.mono {n n' : ℕ} {O : TT} (h : Above n O) (hn : n' ≤ n) : Above n' O := fun g u hg =>
  ⟨(h g u hg).1, lt_of_le_of_lt hn (h g u hg).2⟩

theorem above_S2 (c : Dev nD) (n : ℕ) : Above 2 (owedS2 c n) := fun g u h => by
  obtain ⟨q, -, hq⟩ := sum_pos_cell h
  obtain ⟨-, rfl⟩ := dueD_pos hq
  exact ⟨rfl, by rw [lv_d]; decide⟩
theorem above_S1 (c : Dev nD) (n : ℕ) : Above 1 (owedS1 c n) := by
  refine ((above_S2 c 0).mono (by decide)).add fun g u h => ?_
  obtain ⟨q, -, hq⟩ := sum_pos_cell h
  obtain ⟨-, rfl⟩ := dueD_pos hq
  exact ⟨rfl, by rw [lv_d]; decide⟩
theorem above_O₀ (c : Dev nD) : Above 0 (O₀ c) := by
  refine ((above_S1 c 0).mono (by decide)).add fun g u h => ?_
  obtain ⟨q, -, hq⟩ := sum_pos_cell h
  obtain ⟨-, rfl⟩ := dueBar_pos hq
  exact ⟨rfl, by rw [lv_bar]; decide⟩

omit [FloatOps F] [Named F] in
theorem mayWait (c : Dev nD) (sm : SemLoc sig) (n : ℕ) (hs : lvS sm ≤ n) (O : TT) (hO : Above n O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hs)
    (fun g u hg => (hO g u hg).2)

end Cert.K

end
-- ==== Proof.Steps.lean ====
/-
The kernel's communication steps: one lemma for each kind of transfer, signal and wait, stated at any device and any peer.
-/
module

public import proofs.«01_k».proof.Proof.Protocol

@[expose] public section

set_option maxRecDepth 16384

noncomputable section

namespace Cert.K

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.SparseCore.ProtocolKit

variable {F : FTy → Type} [FloatOps F] [Named F]

local notation "𝕄" => MT nD τ sig Unit (Elt F) ℕ UU ℕ

abbrev 𝒱₀ : Variants := Variants.none

variable (A : Dev nD → Vec F S2x512x768 .bf16)

/-! ## What every device may consult -/

abbrev Cell : Type := Unit ⊕ (Fin 4 × Dev nD)
def csem : Cell → SemLoc sig
  | .inl _ => .reg barS
  | .inr kq => .dma (dsem kq.1 kq.2)
abbrev kcell (x : Dev nD × Cell) : GSem nD τ sig := ((x.1 : Thread nD τ), csem x.2)

variable (K : Dev nD × Cell → ℕ)

def records : sProp 𝕄 :=
  iprop((bigSep Finset.univ fun x : Dev nD × Cell => cellInv ER (rd A) (K x) (kcell x))
    ∗ bigSep Finset.univ fun x : Dev nD × Cell => reached ER (kcell x) 0)
instance records_persistent : BI.Persistent (records A K) := by unfold records; infer_instance

def Cx : sProp 𝕄 := iprop(records A K ∗ levAts L lv)
instance Cx_persistent : BI.Persistent (Cx A K) := by unfold Cx; infer_instance

theorem inv_at (x : Dev nD × Cell) :
    (bigSep Finset.univ fun x : Dev nD × Cell => (cellInv ER (rd A) (K x) (kcell x) : sProp 𝕄)) ⊢ cellInv ER (rd A) (K x) (kcell x) :=
  bigSep_elim (Finset.mem_univ x)
omit [FloatOps F] [Named F] in
theorem reached_at (x : Dev nD × Cell) :
    (bigSep Finset.univ fun x : Dev nD × Cell => (reached ER (kcell x) 0 : sProp 𝕄)) ⊢ reached ER (kcell x) 0 :=
  bigSep_elim (Finset.mem_univ x)

theorem cx_inv_at (x : Dev nD × Cell) : Cx A K ⊢ cellInv ER (rd A) (K x) (kcell x) := by
  unfold Cx records
  iintro ⟨⟨#H, -⟩, -⟩
  iapply (inv_at A K x); iexact H
theorem cx_rch_at (x : Dev nD × Cell) : Cx A K ⊢ reached ER (kcell x) 0 := by
  unfold Cx records
  iintro ⟨⟨-, #H⟩, -⟩
  iapply (reached_at (F := F) x); iexact H
theorem cx_inv_bar (c : Dev nD) : Cx A K ⊢ cellInv ER (rd A) (K (c, .inl ())) (barCell c) := cx_inv_at A K (c, .inl ())
theorem cx_inv (k : Fin 4) (c q : Dev nD) : Cx A K ⊢ cellInv ER (rd A) (K (c, .inr (k, q))) (dCell k c q) := cx_inv_at A K (c, .inr (k, q))
theorem cx_rch_bar (c : Dev nD) : Cx A K ⊢ reached ER (barCell c) 0 := cx_rch_at A K (c, .inl ())
theorem cx_rch (k : Fin 4) (c q : Dev nD) : Cx A K ⊢ reached ER (dCell k c q) 0 := cx_rch_at A K (c, .inr (k, q))
theorem cx_lev : Cx A K ⊢ levAts L lv := by
  unfold Cx; iintro ⟨-, H⟩; iexact H

/-- What device `c` owes, whatever waits it has recorded. -/
def ow (c : Dev nD) (O : TT) : sProp 𝕄 := iprop(∃ W, owes (c : Thread nD τ) O W)

/-! ## Single steps -/

section Ops

theorem op_signal {α : Type} {Q : α → sProp 𝕄} (c q dv : Dev nD) (hdv : dv = q) (hq : q ≠ c) (O O' : TT) (hO : O = O' + dueBar c q)
    {k : PUnit → Prog (TpuEff nD τ sig (Elt F) Λ₀ .tc) α} :
    iprop(Cx A K ∗ ow c O ∗ dutyTok ER (barCell q) 0 c ∗ land (F := F) q c)
      ⊢ iprop((ow c O' -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (dv : Thread nD τ) barS 1) k) Q) := by
  subst hdv
  unfold ow
  iintro ⟨#Hc, ⟨%W, HO⟩, Ht, Hl⟩ Hk
  iapply (Rounds.wp_signal 𝒱₀ ER (rd A) (c : Thread nD τ) none (dst := (dv : Thread nD τ)) (κ := K (dv, .inl ()))
      (d := c) (by rw [duties_bar]; exact Finset.mem_erase.mpr ⟨fun h => hq h.symm, Finset.mem_univ _⟩) (amount_bar A dv c) () (O₀ := O) O'
      (by rw [hO]; unfold dueBar; rw [if_neg hq])) $$ [HO Ht Hl]
  · isplitr; · iapply (cx_inv_bar A K dv); iexact Hc
    isplitl [HO]; · iexact HO
    isplitl [Ht]; · iexact Ht
    isplitl [Hl]; · rw [payload_bar]; iexact Hl
    iapply (cx_rch_bar A K dv); iexact Hc
  iintro HO
  iapply Hk
  iexists W; iexact HO

theorem op_barWait {α : Type} {Q : α → sProp 𝕄} (c : Dev nD) {k : PUnit → Prog (TpuEff nD τ sig (Elt F) Λ₀ .tc) α} :
    iprop(Cx A K ∗ ow c (owedS1 c 0) ∗ cred (tallyAt (barCell c) () 7) ∗ atPos ER (barCell c) 0 ∅ 0)
      ⊢ iprop(((ow c (owedS1 c 0) ∗ atPos ER (barCell c) 1 ∅ 0 ∗ bigSep (Finset.univ.erase c) (land (F := F) c))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS 7) k) Q) := by
  unfold ow
  iintro ⟨#Hc, ⟨%W, HO⟩, Hcr, Hat⟩ Hk
  iapply (Rounds.wp_wait_rest_token 𝒱₀ ER (rd A) (c : Thread nD τ) none (κ := K (c, .inl ()))
      (wpE_semWait_eq 𝒱₀ (c : Thread nD τ) none Set.univ) (Set.mem_univ _) () (O := owedS1 c 0) (W := W) (R := 0) (m := 0) (T := ∅)
      (by rw [expect_bar])) $$ [Hcr HO Hat]
  · isplitr; · iapply (cx_inv_bar A K c); iexact Hc
    isplitl [Hcr]; · iexact Hcr
    isplitl [HO]; · iexact HO
    isplitr; · iapply (mayWait c (.reg barS) 1 (le_of_eq lv_bar) (owedS1 c 0) (above_S1 c 0)); iapply (cx_lev A K); iexact Hc
    iexact Hat
  iintro ⟨HO, Hat, -, Hpay⟩
  ihave Hp := (Entails.of_eq (rest_bar A c)) $$ Hpay
  iapply Hk
  isplitl [HO]; · iexists _; iexact HO
  isplitl [Hat]; · iexact Hat
  iexact Hp

/-- The wait on cell `(k, q)` of the device's own, where what it still owes lies above. -/
theorem op_wait {α : Type} {Q : α → sProp 𝕄} (k : Fin 4) (c q : Dev nD) (hq : q ≠ c) (n : ℕ) (hn : lvS (.dma (dsem k q)) ≤ n) (O : TT) (hO : Above n O)
    {s : DmaSem sig} (hs : s = dsem k q) {src dst : Memref sig .tc .vmem S2x64x768 .bf16} (hN : dst.view.dmaCredit = N)
    {w1 : src.view.WordExact} {w2 : dst.view.WordExact}
    {p : PUnit → Prog (TpuEff nD τ sig (Elt F) Λ₀ .tc) α} :
    iprop(Cx A K ∗ ow c O ∗ cred (tallyAt (dCell k c q) () N) ∗ atPos ER (dCell k c q) 0 ∅ 0)
      ⊢ iprop(((ow c O ∗ atPos ER (dCell k c q) 1 ∅ 0 ∗ pay A k c q)
            -∗ wp frame (wpE (defs₀ (F := F)) 𝒱₀ (c : Thread nD τ) none) Set.univ (p ⟨⟩) Q)
          -∗ wp frame (wpE (defs₀ (F := F)) 𝒱₀ (c : Thread nD τ) none) Set.univ (.op (.waitDma2 s src dst w1 w2) p) Q) := by
  subst hs
  rw [← hN]
  unfold ow
  iintro ⟨#Hc, ⟨%W, HO⟩, Hcr, Hat⟩ Hk
  iapply (Rounds.wp_wait_rest_token 𝒱₀ ER (rd A) (c : Thread nD τ) none (κ := K (c, .inr (k, q)))
      (wpE_waitDma2_eq 𝒱₀ (c : Thread nD τ) none Set.univ) (Set.mem_univ _) () (O := O) (W := W) (R := 0) (m := 0) (T := ∅)
      (by rw [Nat.zero_add, expect_d A k c q hq, hN])) $$ [Hcr HO Hat]
  · isplitr; · iapply (cx_inv A K k c q); iexact Hc
    isplitl [Hcr]; · iexact Hcr
    isplitl [HO]; · iexact HO
    isplitr; · iapply (mayWait c (.dma (dsem k q)) n hn O hO); iapply (cx_lev A K); iexact Hc
    iexact Hat
  iintro ⟨HO, Hat, -, Hpay⟩
  ihave Hp := (Entails.of_eq (rest_d A k c q hq)) $$ Hpay
  iapply Hk
  isplitl [HO]; · iexists _; iexact HO
  isplitl [Hat]; · iexact Hat
  iexact Hp

/-! What lands -/

theorem idx4_ext {d : Fin 4 → Nat} {x y : (⟨4, d⟩ : Shape).Idx} (h0 : (x 0).val = (y 0).val) (h1 : (x 1).val = (y 1).val)
    (h2 : (x 2).val = (y 2).val) (h3 : (x 3).val = (y 3).val) : x = y := by
  funext a
  match a with
  | ⟨0, _⟩ => exact Fin.ext h0
  | ⟨1, _⟩ => exact Fin.ext h1
  | ⟨2, _⟩ => exact Fin.ext h2
  | ⟨3, _⟩ => exact Fin.ext h3

theorem slot_emb (q : Dev nD) (j : S2x64x768.Idx) : (slotOf q).view.emb j = (ix4 q (j 0) (j 1) (j 2) : S8x2x64x768.Idx) := by
  show (Rect.unit (s := S8x2x64x768) ![q.val, 0, 0, 0] S1x2x64x768.size (inb_slot q)).emb (Shape.reshapeEquiv _ j) = _
  refine (congrArg _ ((congrArg (Shape.reshapeEquiv _) (eq_ix3 j)).trans (reshapeEquiv_ix3_1abc (a := 2) (b := 64) (c := 768) _ (j 0) (j 1) (j 2)))).trans ?_
  refine idx4_ext ?_ ?_ ?_ ?_
  · show q.val + 1 * 0 = q.val; omega
  · show 0 + 1 * (j 0).val = (j 0).val; omega
  · show 0 + 1 * (j 1).val = (j 1).val; omega
  · show 0 + 1 * (j 2).val = (j 2).val; omega

theorem chunk_rows (q : Dev nD) (j : S2x64x768.Idx) : 64 * q.val + (j 1).val < 512 := by
  have h : (j 1).val < 64 := (j 1).isLt
  have hq : q.val < 8 := q.isLt
  omega

theorem chunk_emb (q : Dev nD) (j : S2x64x768.Idx) :
    (Rect.unit (s := S2x512x768) ![0, 64 * q.val, 0] S2x64x768.size (inb_chunk q)).emb j
      = (ix3 (j 0) ⟨64 * q.val + (j 1).val, chunk_rows q j⟩ (j 2) : S2x512x768.Idx) := by
  refine Shape.idx3_ext ?_ ?_ ?_
  · show 0 + 1 * (j 0).val = (j 0).val; omega
  · show 64 * q.val + 1 * (j 1).val = 64 * q.val + (j 1).val; omega
  · show 0 + 1 * (j 2).val = (j 2).val; omega

/-- Chunk `q` of device `c`'s partial product, landed in slot `c` of device `q`'s staging buffer, is what the slot is to hold. -/
theorem landed_slot (c q : Dev nD) (f : Vec F S8x2x64x768 .bf16) (i : S8x2x64x768.Idx) (hi : i ∈ slotS c) :
    (slotOf c).view.write (Elt F) f ((chunkOf accR q).view.read (Elt F) (A c)) Finset.univ i = stgV A q i := by
  rw [← slot_set c] at hi
  obtain ⟨j, -, rfl⟩ := Finset.mem_map.mp hi
  refine (View.write_emb_of_mem _ _ (Finset.mem_univ j)).trans ?_
  rw [slot_emb c j]
  show A c ((Rect.unit (s := S2x512x768) ![0, 64 * q.val, 0] S2x64x768.size (inb_chunk q)).emb j) = _
  rw [chunk_emb]
  rfl

theorem landed_chunk (c : Dev nD) (X f : Vec F S2x512x768 .bf16) (i : S2x512x768.Idx) (hi : i ∈ chunkS c) :
    (chunkOf outR c).view.write (Elt F) f ((chunkOf outR c).view.read (Elt F) X) Finset.univ i = X i := by
  rw [View.write_read_eq_piecewise]
  refine Finset.piecewise_eq_of_mem _ _ _ ?_
  rw [View.setOn_univ, chunk_set_out]; exact hi

/-- The transfer of chunk `q` of the partial product into device `q`'s staging buffer. -/
theorem op_send1 {α : Type} {Q : α → sProp 𝕄} (c q dv : Dev nD) (hdv : dv = q) (hq : q ≠ c) (O O' : TT) (hO : O = O' + dueD 1 c q)
    {src dst : Memref sig .tc .vmem S2x64x768 .bf16} (hsrc : src = chunkOf accR q) (hdst : dst = slotOf c)
    {sS sR : DmaSem sig} (hsS : sS = dsem 0 q) (hsR : sR = dsem 1 c)
    {hsc : (dst : Memref sig (Dev.tc dv : Thread nD τ).2.kind .vmem S2x64x768 .bf16).view.ref.isScScratch = false}
    {w1 : src.view.WordExact} {w2 : dst.view.WordExact}
    {w3 : DmaTarget.Typed .vmem (.dma sR) (.remote (Dev.tc dv : Thread nD τ) dst (.dma sS) hsc)}
    {p : PUnit → Prog (TpuEff nD τ sig (Elt F) Λ₀ .tc) α} :
    iprop(Cx A K ∗ ow c O ∗ accPts c (chunkS q) (A c) ∗ (∃ f, slotPts (F := F) q c f) ∗ dutyTok ER (dCell 0 c q) 0 0 ∗ dutyTok ER (dCell 1 q c) 0 0)
      ⊢ iprop(((ow c O' ∗ cred (tallyAt (dCell 0 c q) () N)) -∗ wp frame (wpE (defs₀ (F := F)) 𝒱₀ (c : Thread nD τ) none) Set.univ (p ⟨⟩) Q)
          -∗ wp frame (wpE (defs₀ (F := F)) 𝒱₀ (c : Thread nD τ) none) Set.univ
              (.op (.enqueueDma src (.remote (Dev.tc dv : Thread nD τ) dst (.dma sS) hsc) (.dma sR) w1 w2 w3) p) Q) := by
  subst hdv hsrc hdst hsS hsR
  unfold ow accPts slotPts
  iintro ⟨#Hc, ⟨%W, HO⟩, Hsrc, ⟨%f, Hdst⟩, Ht0, Ht1⟩ Hk
  iapply (Rounds.wp_send_pointsTo 𝒱₀ ER (rd A) (c : Thread nD τ) none (κ₁ := K (c, .inr (0, dv))) (κ₂ := K (dv, .inr (1, c)))
    (c' := (dv : Thread nD τ)) (src := chunkOf accR dv) (dst := slotOf c) (q := fullShare) (fs := A c)
    (r₁ := 0) (r₂ := 0) (d₁ := 0) (d₂ := 0) (fd := f)
    (by rw [duties_d A 0 c dv hq]; exact Finset.mem_singleton_self _) (by rw [duties_d A 1 dv c (Ne.symm hq)]; exact Finset.mem_singleton_self _)
    () () N rfl (amount_d A 0 c dv 0) (amount_d A 1 dv c 0) (O₀ := O) O' (by rw [hO]; unfold dueD; rw [if_neg hq]) (W := W)
    (by rw [payload_d, chunk_set_acc]; exact BI.Entails.refl _)
    (by rw [payload_d, slot_set]; show _ ⊢ slotPts dv c (stgV A dv); unfold slotPts
        rw [pointsTo_congr (g := stgV A dv) (fun i hi => landed_slot A c dv f i hi)])) $$ [HO Hsrc Hdst Ht0 Ht1]
  · isplitr; · iapply (cx_inv A K 0 c dv); iexact Hc
    isplitr; · iapply (cx_inv A K 1 dv c); iexact Hc
    isplitl [Hsrc]; · rw [chunk_set_acc]; iexact Hsrc
    isplitl [Hdst]; · rw [slot_set]; iexact Hdst
    isplitl [HO]; · iexact HO
    isplitl [Ht0]; · iexact Ht0
    isplitr; · iapply (cx_rch A K 0 c dv); iexact Hc
    isplitl [Ht1]; · iexact Ht1
    iapply (cx_rch A K 1 dv c); iexact Hc
  iintro ⟨Hcr, HO⟩
  iapply Hk
  isplitl [HO]; · iexists W; iexact HO
  iexact Hcr

/-- The transfer of the device's own chunk of the result into device `q`'s result buffer. -/
theorem op_send2 {α : Type} {Q : α → sProp 𝕄} (c q dv : Dev nD) (hdv : dv = q) (hq : q ≠ c) (O O' : TT) (hO : O = O' + dueD 3 c q)
    {src dst : Memref sig .tc .vmem S2x64x768 .bf16} (hsrc : src = chunkOf outR c) (hdst : dst = chunkOf outR c)
    {sS sR : DmaSem sig} (hsS : sS = dsem 2 q) (hsR : sR = dsem 3 c)
    {hsc : (dst : Memref sig (Dev.tc dv : Thread nD τ).2.kind .vmem S2x64x768 .bf16).view.ref.isScScratch = false}
    {w1 : src.view.WordExact} {w2 : dst.view.WordExact}
    {w3 : DmaTarget.Typed .vmem (.dma sR) (.remote (Dev.tc dv : Thread nD τ) dst (.dma sS) hsc)}
    {p : PUnit → Prog (TpuEff nD τ sig (Elt F) Λ₀ .tc) α} :
    iprop(Cx A K ∗ ow c O ∗ outPts c (lend q) (chunkS c) (outV A) ∗ (∃ f, outPts (F := F) q fullShare (chunkS c) f) ∗ dutyTok ER (dCell 2 c q) 0 0 ∗ dutyTok ER (dCell 3 q c) 0 0)
      ⊢ iprop(((ow c O' ∗ cred (tallyAt (dCell 2 c q) () N)) -∗ wp frame (wpE (defs₀ (F := F)) 𝒱₀ (c : Thread nD τ) none) Set.univ (p ⟨⟩) Q)
          -∗ wp frame (wpE (defs₀ (F := F)) 𝒱₀ (c : Thread nD τ) none) Set.univ
              (.op (.enqueueDma src (.remote (Dev.tc dv : Thread nD τ) dst (.dma sS) hsc) (.dma sR) w1 w2 w3) p) Q) := by
  subst hdv hsrc hdst hsS hsR
  unfold ow outPts
  iintro ⟨#Hc, ⟨%W, HO⟩, Hsrc, ⟨%f, Hdst⟩, Ht0, Ht1⟩ Hk
  iapply (Rounds.wp_send_pointsTo 𝒱₀ ER (rd A) (c : Thread nD τ) none (κ₁ := K (c, .inr (2, dv))) (κ₂ := K (dv, .inr (3, c)))
    (c' := (dv : Thread nD τ)) (src := chunkOf outR c) (dst := chunkOf outR c) (q := lend dv) (fs := outV A)
    (r₁ := 0) (r₂ := 0) (d₁ := 0) (d₂ := 0) (fd := f)
    (by rw [duties_d A 2 c dv hq]; exact Finset.mem_singleton_self _) (by rw [duties_d A 3 dv c (Ne.symm hq)]; exact Finset.mem_singleton_self _)
    () () N rfl (amount_d A 2 c dv 0) (amount_d A 3 dv c 0) (O₀ := O) O' (by rw [hO]; unfold dueD; rw [if_neg hq]) (W := W)
    (by rw [payload_d, chunk_set_out]; exact BI.Entails.refl _)
    (by rw [payload_d, chunk_set_out]; show _ ⊢ outPts dv fullShare (chunkS c) (outV A); unfold outPts
        rw [pointsTo_congr (g := outV A) (fun i hi => landed_chunk c (outV A) f i hi)])) $$ [HO Hsrc Hdst Ht0 Ht1]
  · isplitr; · iapply (cx_inv A K 2 c dv); iexact Hc
    isplitr; · iapply (cx_inv A K 3 dv c); iexact Hc
    isplitl [Hsrc]; · rw [chunk_set_out]; iexact Hsrc
    isplitl [Hdst]; · rw [chunk_set_out]; iexact Hdst
    isplitl [HO]; · iexact HO
    isplitl [Ht0]; · iexact Ht0
    isplitr; · iapply (cx_rch A K 2 c dv); iexact Hc
    isplitl [Ht1]; · iexact Ht1
    iapply (cx_rch A K 3 dv c); iexact Hc
  iintro ⟨Hcr, HO⟩
  iapply Hk
  isplitl [HO]; · iexists W; iexact HO
  iexact Hcr

end Ops

end Cert.K

end
-- ==== Proof.Phases.lean ====
/-
The five exchanges of the kernel, each a run over the eight devices in order: the barrier's signals, the first
exchange's transfers, its landings, the second exchange's transfers, its landings, and the waits for both exchanges'
transfers to have left. At each device other than the running one there is a step; at the running one none.
-/
module

public import proofs.«01_k».proof.Proof.Steps

@[expose] public section

set_option maxRecDepth 16384

noncomputable section

namespace Cert.K

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.SparseCore.ProtocolKit

variable {F : FTy → Type} [FloatOps F] [Named F]

local notation "𝕄" => MT nD τ sig Unit (Elt F) ℕ UU ℕ

variable (A : Dev nD → Vec F S2x512x768 .bf16) (K : Dev nD × Cell → ℕ)

/-! ## Families over the devices -/

/-- A run over the devices that has reached device `n`: those before are done, the others to do. -/
def fam (P D : Dev nD → sProp 𝕄) (n : ℕ) : sProp 𝕄 :=
  iprop(bigSep (finFrom 8 n) P ∗ bigSep (finUpTo 8 n) D)

omit [FloatOps F] [Named F] in
theorem fam_next (P D : Dev nD → sProp 𝕄) {n : ℕ} (hn : n < 8) :
    fam P D n ⊢ iprop(P ⟨n, hn⟩ ∗ (D ⟨n, hn⟩ -∗ fam P D (n + 1))) := by
  unfold fam
  rw [bigSep_finFrom_succ hn, bigSep_finUpTo_succ hn]
  iintro ⟨⟨HP, Hr⟩, HD⟩
  isplitl [HP]; · iexact HP
  iintro H
  isplitl [Hr]; · iexact Hr
  isplitl [H]; · iexact H
  iexact HD

omit [FloatOps F] [Named F] in
theorem fam_start (P D : Dev nD → sProp 𝕄) : bigSep Finset.univ P ⊢ fam P D 0 := by
  unfold fam
  rw [bigSep_finFrom_zero, bigSep_finUpTo_zero]
  iintro H
  isplitl; · iexact H
  iempintro

omit [FloatOps F] [Named F] in
theorem fam_end (P D : Dev nD → sProp 𝕄) : fam P D 8 ⊢ bigSep Finset.univ D := by
  unfold fam
  rw [bigSep_finFrom_self, bigSep_finUpTo_self]
  iintro ⟨-, H⟩
  iexact H

theorem owedBar_succ (c : Dev nD) {n : ℕ} (hn : n < 8) : owedBar c n = owedBar c (n + 1) + dueBar c ⟨n, hn⟩ := by
  unfold owedBar; exact add_sum_finFrom_succ _ hn _
theorem owedS1_succ (c : Dev nD) {n : ℕ} (hn : n < 8) : owedS1 c n = owedS1 c (n + 1) + dueD 1 c ⟨n, hn⟩ := by
  unfold owedS1; exact add_sum_finFrom_succ _ hn _
theorem owedS2_succ (c : Dev nD) {n : ℕ} (hn : n < 8) : owedS2 c n = owedS2 c (n + 1) + dueD 3 c ⟨n, hn⟩ := by
  have h := add_sum_finFrom_succ (0 : TT) hn (dueD 3 c)
  rw [zero_add, zero_add] at h
  exact h
theorem owedBar_end (c : Dev nD) : owedBar c 8 = owedS1 c 0 := by
  unfold owedBar; rw [sum_finFrom_self, add_zero]
theorem owedS1_end (c : Dev nD) : owedS1 c 8 = owedS2 c 0 := by
  unfold owedS1; rw [sum_finFrom_self, add_zero]
theorem owedS2_end (c : Dev nD) : owedS2 c 8 = 0 := by
  unfold owedS2; rw [sum_finFrom_self]

theorem dueBar_self (c : Dev nD) : dueBar c c = 0 := if_pos rfl
theorem dueD_self (k : Fin 4) (c : Dev nD) : dueD k c c = 0 := if_pos rfl

/-! ## The barrier's signals -/

def SigPre (c q : Dev nD) : sProp 𝕄 := if q = c then iprop(emp) else iprop(dutyTok ER (barCell q) 0 c ∗ land (F := F) q c)
def SigSt (c : Dev nD) (n : ℕ) : sProp 𝕄 := iprop(ow c (owedBar c n) ∗ fam (SigPre c) (fun _ => iprop(emp)) n)

abbrev WPo {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

theorem sig_step {α : Type} {Q : α → sProp 𝕄} {n : ℕ} (hn : n < 8) (c : Dev nD) {C : Prop} [dec : Decidable C]
    (hC : C ↔ (⟨n, hn⟩ : Dev nD) ≠ c) {p : C → Prog (TpuEff nD τ sig (Elt F) Λ₀ .tc) α}
    {e : ¬C → Prog (TpuEff nD τ sig (Elt F) Λ₀ .tc) α} {J : Prog (TpuEff nD τ sig (Elt F) Λ₀ .tc) α} {dv : C → Dev nD}
    (he : ∀ h, e h = J) (hp : ∀ h, p h = .op (.semSignal (dv h : Thread nD τ) barS 1) (fun _ => J))
    (hdv : ∀ h, dv h = ⟨n, hn⟩) {R : sProp 𝕄}
    (h : iprop(Cx A K ∗ R ∗ SigSt c (n + 1)) ⊢ WPo c J Q) :
    iprop(Cx A K ∗ R ∗ SigSt c n) ⊢ WPo c (@dite _ C dec p e) Q := by
  unfold SigSt at h ⊢
  by_cases hc : C
  · have hq := hC.mp hc
    rw [dif_pos hc, hp hc]
    iintro ⟨#Hc, HR, HO, Hf⟩
    ihave Hf' := (fam_next _ _ hn) $$ Hf
    icases Hf' with ⟨HP, Hnext⟩
    ihave HP' := (show SigPre c ⟨n, hn⟩ ⊢ _ from Entails.of_eq (if_neg hq)) $$ HP
    icases HP' with ⟨Ht, Hl⟩
    iapply (op_signal A K c ⟨n, hn⟩ (dv hc) (hdv hc) hq _ _ (owedBar_succ c hn)) $$ [HO Ht Hl]
    · isplitr; · iexact Hc
      isplitl [HO]; · iexact HO
      isplitl [Ht] <;> iassumption
    iintro HO
    iapply h
    isplitr; · iexact Hc
    isplitl [HR]; · iexact HR
    isplitl [HO]; · iexact HO
    iapply Hnext; iempintro
  · have hq : (⟨n, hn⟩ : Dev nD) = c := by by_contra h'; exact hc (hC.mpr h')
    rw [dif_neg hc, he hc]
    refine BIBase.Entails.trans ?_ h
    iintro ⟨#Hc, HR, HO, Hf⟩
    ihave Hf' := (fam_next _ _ hn) $$ Hf
    icases Hf' with ⟨-, Hnext⟩
    isplitr; · iexact Hc
    isplitl [HR]; · iexact HR
    isplitl [HO]
    · rw [owedBar_succ c hn, hq, dueBar_self, add_zero]; iexact HO
    iapply Hnext; iempintro

/-! ## The first exchange's transfers -/

/-- To come back from cell `(k, q)`, or already at hand where `q` is the device itself. -/
def Due (k : Fin 4) (X : sProp 𝕄) (c q : Dev nD) : sProp 𝕄 := if q = c then X else cred (tallyAt (dCell k c q) () N)
def Got (k : Fin 4) (X : sProp 𝕄) (c q : Dev nD) : sProp 𝕄 := if q = c then X else pay A k c q
def att (k : Fin 4) (c q : Dev nD) (r : ℕ) : sProp 𝕄 := atPos ER (dCell k c q) (if q = c then 0 else r) ∅ 0

def S1Pre (c q : Dev nD) : sProp 𝕄 :=
  if q = c then iprop(emp) else iprop((∃ f, slotPts (F := F) q c f) ∗ dutyTok ER (dCell 0 c q) 0 0 ∗ dutyTok ER (dCell 1 q c) 0 0)
def S1St (c : Dev nD) (hi n : ℕ) : sProp 𝕄 :=
  iprop(ow c (owedS1 c n) ∗ accPts c (rowS (64 * n) hi) (A c) ∗ fam (S1Pre c) (Due 0 (pay A 0 c c) c) n)

theorem acc_peel (c : Dev nD) (f : Vec F S2x512x768 .bf16) {n hi : ℕ} (hn : n < 8) (hhi : 64 * n + 64 ≤ hi) :
    accPts c (rowS (64 * n) hi) f ⊢ iprop(accPts c (chunkS ⟨n, hn⟩) f ∗ accPts c (rowS (64 * (n + 1)) hi) f) := by
  unfold accPts
  have hu : rowS (64 * n) hi = rowS (64 * n) (64 * n + 64) ∪ rowS (64 * (n + 1)) hi := by
    ext i; rw [Finset.mem_union, mem_rowS, mem_rowS, mem_rowS]; omega
  have hd : Disjoint (rowS (64 * n) (64 * n + 64)) (rowS (64 * (n + 1)) hi) := by
    rw [Finset.disjoint_left]; intro i; rw [mem_rowS, mem_rowS]; omega
  rw [hu]
  exact (pointsTo_union hd).1

theorem send1_step {α : Type} {Q : α → sProp 𝕄} {n : ℕ} (hn : n < 8) (c : Dev nD) {hi : ℕ} (hhi : 64 * n + 64 ≤ hi) {C : Prop} [dec : Decidable C]
    (hC : C ↔ (⟨n, hn⟩ : Dev nD) ≠ c) {p : C → Prog (TpuEff nD τ sig (Elt F) Λ₀ .tc) α}
    {e : ¬C → Prog (TpuEff nD τ sig (Elt F) Λ₀ .tc) α} {J : Prog (TpuEff nD τ sig (Elt F) Λ₀ .tc) α} {dv : C → Dev nD}
    {src dst : C → Memref sig .tc .vmem S2x64x768 .bf16} {sS sR : C → DmaSem sig}
    {hsc : ∀ h, (dst h : Memref sig (Dev.tc (dv h) : Thread nD τ).2.kind .vmem S2x64x768 .bf16).view.ref.isScScratch = false}
    {w1 : ∀ h, (src h).view.WordExact} {w2 : ∀ h, (dst h).view.WordExact}
    {w3 : ∀ h, DmaTarget.Typed .vmem (.dma (sR h)) (.remote (Dev.tc (dv h) : Thread nD τ) (dst h) (.dma (sS h)) (hsc h))}
    (he : ∀ h, e h = J)
    (hp : ∀ h, p h = .op (.enqueueDma (src h) (.remote (Dev.tc (dv h) : Thread nD τ) (dst h) (.dma (sS h)) (hsc h)) (.dma (sR h)) (w1 h) (w2 h) (w3 h)) (fun _ => J))
    (hdv : ∀ h, dv h = ⟨n, hn⟩) (hsrc : ∀ h, src h = chunkOf accR ⟨n, hn⟩) (hdst : ∀ h, dst h = slotOf c)
    (hsS : ∀ h, sS h = dsem 0 ⟨n, hn⟩) (hsR : ∀ h, sR h = dsem 1 c) {R : sProp 𝕄}
    (h : iprop(Cx A K ∗ R ∗ S1St A c hi (n + 1)) ⊢ WPo c J Q) :
    iprop(Cx A K ∗ R ∗ S1St A c hi n) ⊢ WPo c (@dite _ C dec p e) Q := by
  unfold S1St at h ⊢
  by_cases hc : C
  · have hq := hC.mp hc
    rw [dif_pos hc, hp hc]
    iintro ⟨#Hc, HR, HO, Hacc, Hf⟩
    ihave Hf' := (fam_next _ _ hn) $$ Hf
    icases Hf' with ⟨HP, Hnext⟩
    ihave HP' := (show S1Pre c ⟨n, hn⟩ ⊢ _ from Entails.of_eq (if_neg hq)) $$ HP
    icases HP' with ⟨Hs, Ht0, Ht1⟩
    ihave Ha := (acc_peel c (A c) hn hhi) $$ Hacc
    icases Ha with ⟨Hch, Hacc⟩
    iapply (op_send1 A K c ⟨n, hn⟩ (dv hc) (hdv hc) hq _ _ (owedS1_succ c hn) (hsrc hc) (hdst hc) (hsS hc) (hsR hc)) $$ [HO Hs Ht0 Ht1 Hch]
    · isplitr; · iexact Hc
      isplitl [HO]; · iexact HO
      isplitl [Hch]; · iexact Hch
      isplitl [Hs]; · iexact Hs
      isplitl [Ht0] <;> iassumption
    iintro ⟨HO, Hcr⟩
    iapply h
    isplitr; · iexact Hc
    isplitl [HR]; · iexact HR
    isplitl [HO]; · iexact HO
    isplitl [Hacc]; · iexact Hacc
    iapply Hnext; unfold Due; rw [if_neg hq]; iexact Hcr
  · have hq : (⟨n, hn⟩ : Dev nD) = c := by by_contra h'; exact hc (hC.mpr h')
    rw [dif_neg hc, he hc]
    refine BIBase.Entails.trans ?_ h
    iintro ⟨#Hc, HR, HO, Hacc, Hf⟩
    ihave Hf' := (fam_next _ _ hn) $$ Hf
    icases Hf' with ⟨-, Hnext⟩
    ihave Ha := (acc_peel c (A c) hn hhi) $$ Hacc
    icases Ha with ⟨Hch, Hacc⟩
    isplitr; · iexact Hc
    isplitl [HR]; · iexact HR
    isplitl [HO]
    · rw [owedS1_succ c hn, hq, dueD_self, add_zero]; iexact HO
    isplitl [Hacc]; · iexact Hacc
    iapply Hnext; unfold Due pay; rw [if_pos hq]; rw [hq]; iexact Hch

/-! ## The second exchange's transfers -/

def S2Pre (c q : Dev nD) : sProp 𝕄 :=
  iprop(outPts c (lend q) (chunkS c) (outV A)
    ∗ if q = c then iprop(emp) else iprop((∃ f, outPts (F := F) q fullShare (chunkS c) f) ∗ dutyTok ER (dCell 2 c q) 0 0 ∗ dutyTok ER (dCell 3 q c) 0 0))
def S2St (c : Dev nD) (n : ℕ) : sProp 𝕄 :=
  iprop(ow c (owedS2 c n) ∗ fam (S2Pre A c) (Due 2 (pay A 2 c c) c) n)

theorem send2_step {α : Type} {Q : α → sProp 𝕄} {n : ℕ} (hn : n < 8) (c : Dev nD) {C : Prop} [dec : Decidable C]
    (hC : C ↔ (⟨n, hn⟩ : Dev nD) ≠ c) {p : C → Prog (TpuEff nD τ sig (Elt F) Λ₀ .tc) α}
    {e : ¬C → Prog (TpuEff nD τ sig (Elt F) Λ₀ .tc) α} {J : Prog (TpuEff nD τ sig (Elt F) Λ₀ .tc) α} {dv : C → Dev nD}
    {src dst : C → Memref sig .tc .vmem S2x64x768 .bf16} {sS sR : C → DmaSem sig}
    {hsc : ∀ h, (dst h : Memref sig (Dev.tc (dv h) : Thread nD τ).2.kind .vmem S2x64x768 .bf16).view.ref.isScScratch = false}
    {w1 : ∀ h, (src h).view.WordExact} {w2 : ∀ h, (dst h).view.WordExact}
    {w3 : ∀ h, DmaTarget.Typed .vmem (.dma (sR h)) (.remote (Dev.tc (dv h) : Thread nD τ) (dst h) (.dma (sS h)) (hsc h))}
    (he : ∀ h, e h = J)
    (hp : ∀ h, p h = .op (.enqueueDma (src h) (.remote (Dev.tc (dv h) : Thread nD τ) (dst h) (.dma (sS h)) (hsc h)) (.dma (sR h)) (w1 h) (w2 h) (w3 h)) (fun _ => J))
    (hdv : ∀ h, dv h = ⟨n, hn⟩) (hsrc : ∀ h, src h = chunkOf outR c) (hdst : ∀ h, dst h = chunkOf outR c)
    (hsS : ∀ h, sS h = dsem 2 ⟨n, hn⟩) (hsR : ∀ h, sR h = dsem 3 c) {R : sProp 𝕄}
    (h : iprop(Cx A K ∗ R ∗ S2St A c (n + 1)) ⊢ WPo c J Q) :
    iprop(Cx A K ∗ R ∗ S2St A c n) ⊢ WPo c (@dite _ C dec p e) Q := by
  unfold S2St at h ⊢
  by_cases hc : C
  · have hq := hC.mp hc
    rw [dif_pos hc, hp hc]
    iintro ⟨#Hc, HR, HO, Hf⟩
    ihave Hf' := (fam_next _ _ hn) $$ Hf
    icases Hf' with ⟨HP, Hnext⟩
    ihave HP' := (show S2Pre A c ⟨n, hn⟩ ⊢ _ from Entails.of_eq (by unfold S2Pre; rw [if_neg hq])) $$ HP
    icases HP' with ⟨Hch, Hs, Ht0, Ht1⟩
    iapply (op_send2 A K c ⟨n, hn⟩ (dv hc) (hdv hc) hq _ _ (owedS2_succ c hn) (hsrc hc) (hdst hc) (hsS hc) (hsR hc)) $$ [HO Hs Ht0 Ht1 Hch]
    · isplitr; · iexact Hc
      isplitl [HO]; · iexact HO
      isplitl [Hch]; · iexact Hch
      isplitl [Hs]; · iexact Hs
      isplitl [Ht0] <;> iassumption
    iintro ⟨HO, Hcr⟩
    iapply h
    isplitr; · iexact Hc
    isplitl [HR]; · iexact HR
    isplitl [HO]; · iexact HO
    iapply Hnext; unfold Due; rw [if_neg hq]; iexact Hcr
  · have hq : (⟨n, hn⟩ : Dev nD) = c := by by_contra h'; exact hc (hC.mpr h')
    rw [dif_neg hc, he hc]
    refine BIBase.Entails.trans ?_ h
    iintro ⟨#Hc, HR, HO, Hf⟩
    ihave Hf' := (fam_next _ _ hn) $$ Hf
    icases Hf' with ⟨HP, Hnext⟩
    ihave HP' := (show S2Pre A c ⟨n, hn⟩ ⊢ _ from Entails.of_eq (by unfold S2Pre; rw [if_pos hq])) $$ HP
    icases HP' with ⟨Hch, -⟩
    isplitr; · iexact Hc
    isplitl [HR]; · iexact HR
    isplitl [HO]
    · rw [owedS2_succ c hn, hq, dueD_self, add_zero]; iexact HO
    iapply Hnext; unfold Due pay; rw [if_pos hq]; rw [hq]; iexact Hch

/-! ## The waits -/

def WPre (k : Fin 4) (X : sProp 𝕄) (c q : Dev nD) : sProp 𝕄 := iprop(att k c q 0 ∗ Due k X c q)
def WPost (k : Fin 4) (X : sProp 𝕄) (c q : Dev nD) : sProp 𝕄 := iprop(att k c q 1 ∗ Got A k X c q)
def WSt (k : Fin 4) (X : sProp 𝕄) (O : TT) (c : Dev nD) (n : ℕ) : sProp 𝕄 := iprop(ow c O ∗ fam (WPre k X c) (WPost A k X c) n)

omit [FloatOps F] [Named F] in
theorem att_ne (k : Fin 4) (c q : Dev nD) (r : ℕ) (h : q ≠ c) : (att k c q r : sProp 𝕄) = atPos ER (dCell k c q) r ∅ 0 := by
  unfold att; rw [if_neg h]
omit [FloatOps F] [Named F] in
theorem att_self (k : Fin 4) (c q : Dev nD) (r : ℕ) (h : q = c) : (att k c q r : sProp 𝕄) = att k c q 0 := by
  unfold att; rw [if_pos h, if_pos h]

theorem wpre_ne (k : Fin 4) (X : sProp 𝕄) (c q : Dev nD) (h : q ≠ c) :
    WPre k X c q = iprop(atPos ER (dCell k c q) 0 ∅ 0 ∗ cred (tallyAt (dCell k c q) () N)) := by
  unfold WPre Due; rw [att_ne k c q 0 h, if_neg h]
theorem wpost_ne (k : Fin 4) (X : sProp 𝕄) (c q : Dev nD) (h : q ≠ c) :
    WPost A k X c q = iprop(atPos ER (dCell k c q) 1 ∅ 0 ∗ pay A k c q) := by
  unfold WPost Got; rw [att_ne k c q 1 h, if_neg h]
theorem wpre_self (k : Fin 4) (X : sProp 𝕄) (c q : Dev nD) (h : q = c) : WPre k X c q = WPost A k X c q := by
  unfold WPre WPost Due Got; rw [att_self k c q 1 h, if_pos h, if_pos h]

theorem wait_step {α : Type} {Q : α → sProp 𝕄} {n : ℕ} (hn : n < 8) (c : Dev nD) (k : Fin 4) (X : sProp 𝕄) (O : TT) (l : ℕ)
    (hl : ∀ q, lvS (.dma (dsem k q)) ≤ l) (hO : Above l O) {C : Prop} [dec : Decidable C]
    (hC : C ↔ (⟨n, hn⟩ : Dev nD) ≠ c) {p : C → Prog (TpuEff nD τ sig (Elt F) Λ₀ .tc) α}
    {e : ¬C → Prog (TpuEff nD τ sig (Elt F) Λ₀ .tc) α} {J : Prog (TpuEff nD τ sig (Elt F) Λ₀ .tc) α}
    {src dst : C → Memref sig .tc .vmem S2x64x768 .bf16} {s : C → DmaSem sig}
    {w1 : ∀ h, (src h).view.WordExact} {w2 : ∀ h, (dst h).view.WordExact}
    (he : ∀ h, e h = J) (hp : ∀ h, p h = .op (.waitDma2 (s h) (src h) (dst h) (w1 h) (w2 h)) (fun _ => J))
    (hN : ∀ h, (dst h).view.dmaCredit = N) (hs : ∀ h, s h = dsem k ⟨n, hn⟩) {R : sProp 𝕄}
    (h : iprop(Cx A K ∗ R ∗ WSt A k X O c (n + 1)) ⊢ WPo c J Q) :
    iprop(Cx A K ∗ R ∗ WSt A k X O c n) ⊢ WPo c (@dite _ C dec p e) Q := by
  unfold WSt at h ⊢
  by_cases hc : C
  · have hq := hC.mp hc
    rw [dif_pos hc, hp hc]
    iintro ⟨#Hc, HR, HO, Hf⟩
    ihave Hf' := (fam_next _ _ hn) $$ Hf
    icases Hf' with ⟨HP, Hnext⟩
    ihave HP' := (Entails.of_eq (wpre_ne k X c ⟨n, hn⟩ hq)) $$ HP
    icases HP' with ⟨Hat, Hcr⟩
    iapply (op_wait A K k c ⟨n, hn⟩ hq l (hl _) O hO (hs hc) (hN hc)) $$ [HO Hat Hcr]
    · isplitr; · iexact Hc
      isplitl [HO]; · iexact HO
      isplitl [Hcr] <;> iassumption
    iintro ⟨HO, Hat, Hpay⟩
    iapply h
    isplitr; · iexact Hc
    isplitl [HR]; · iexact HR
    isplitl [HO]; · iexact HO
    iapply Hnext; rw [wpost_ne A k X c _ hq]
    isplitl [Hat] <;> iassumption
  · have hq : (⟨n, hn⟩ : Dev nD) = c := by by_contra h'; exact hc (hC.mpr h')
    rw [dif_neg hc, he hc]
    refine BIBase.Entails.trans ?_ h
    iintro ⟨#Hc, HR, HO, Hf⟩
    ihave Hf' := (fam_next _ _ hn) $$ Hf
    icases Hf' with ⟨HP, Hnext⟩
    isplitr; · iexact Hc
    isplitl [HR]; · iexact HR
    isplitl [HO]; · iexact HO
    iapply Hnext; rw [← wpre_self A k X c _ hq]; iexact HP

/-- The waits for both exchanges' transfers to have left. -/
def JSt (c : Dev nD) (n : ℕ) : sProp 𝕄 :=
  iprop(ow c 0 ∗ fam (fun q => iprop(WPre 0 (pay A 0 c c) c q ∗ WPre 2 (pay A 2 c c) c q))
    (fun q => iprop(WPost A 0 (pay A 0 c c) c q ∗ WPost A 2 (pay A 2 c c) c q)) n)

theorem lv0 (q : Dev nD) : lvS (.dma (dsem 0 q)) ≤ 0 := by rw [lv_d]; exact le_refl _
theorem lv2 (q : Dev nD) : lvS (.dma (dsem 2 q)) ≤ 0 := by rw [lv_d]; exact le_refl _
theorem lv1 (q : Dev nD) : lvS (.dma (dsem 1 q)) ≤ 2 := by rw [lv_d]; exact le_refl _
theorem lv3 (q : Dev nD) : lvS (.dma (dsem 3 q)) ≤ 3 := by rw [lv_d]; exact le_refl _

theorem join_step {α : Type} {Q : α → sProp 𝕄} {n : ℕ} (hn : n < 8) (c : Dev nD) {C : Prop} [dec : Decidable C]
    (hC : C ↔ (⟨n, hn⟩ : Dev nD) ≠ c) {p : C → Prog (TpuEff nD τ sig (Elt F) Λ₀ .tc) α}
    {e : ¬C → Prog (TpuEff nD τ sig (Elt F) Λ₀ .tc) α} {J : Prog (TpuEff nD τ sig (Elt F) Λ₀ .tc) α}
    {src dst src' dst' : C → Memref sig .tc .vmem S2x64x768 .bf16} {s s' : C → DmaSem sig}
    {w1 : ∀ h, (src h).view.WordExact} {w2 : ∀ h, (dst h).view.WordExact}
    {w1' : ∀ h, (src' h).view.WordExact} {w2' : ∀ h, (dst' h).view.WordExact}
    (he : ∀ h, e h = J)
    (hp : ∀ h, p h = .op (.waitDma2 (s h) (src h) (dst h) (w1 h) (w2 h)) (fun _ => .op (.waitDma2 (s' h) (src' h) (dst' h) (w1' h) (w2' h)) (fun _ => J)))
    (hN : ∀ h, (dst h).view.dmaCredit = N) (hN' : ∀ h, (dst' h).view.dmaCredit = N)
    (hs : ∀ h, s h = dsem 0 ⟨n, hn⟩) (hs' : ∀ h, s' h = dsem 2 ⟨n, hn⟩) {R : sProp 𝕄}
    (h : iprop(Cx A K ∗ R ∗ JSt A c (n + 1)) ⊢ WPo c J Q) :
    iprop(Cx A K ∗ R ∗ JSt A c n) ⊢ WPo c (@dite _ C dec p e) Q := by
  unfold JSt at h ⊢
  by_cases hc : C
  · have hq := hC.mp hc
    rw [dif_pos hc, hp hc]
    iintro ⟨#Hc, HR, HO, Hf⟩
    ihave Hf' := (fam_next _ _ hn) $$ Hf
    icases Hf' with ⟨⟨HP, HP2⟩, Hnext⟩
    ihave HP' := (Entails.of_eq (wpre_ne 0 (pay A 0 c c) c ⟨n, hn⟩ hq)) $$ HP
    icases HP' with ⟨Hat, Hcr⟩
    ihave HP2' := (Entails.of_eq (wpre_ne 2 (pay A 2 c c) c ⟨n, hn⟩ hq)) $$ HP2
    icases HP2' with ⟨Hat2, Hcr2⟩
    iapply (op_wait A K 0 c ⟨n, hn⟩ hq 0 (lv0 _) 0 (above_zero 0) (hs hc) (hN hc)) $$ [HO Hat Hcr]
    · isplitr; · iexact Hc
      isplitl [HO]; · iexact HO
      isplitl [Hcr] <;> iassumption
    iintro ⟨HO, Hat, Hpay⟩
    iapply (op_wait A K 2 c ⟨n, hn⟩ hq 0 (lv2 _) 0 (above_zero 0) (hs' hc) (hN' hc)) $$ [HO Hat2 Hcr2]
    · isplitr; · iexact Hc
      isplitl [HO]; · iexact HO
      isplitl [Hcr2] <;> iassumption
    iintro ⟨HO, Hat2, Hpay2⟩
    iapply h
    isplitr; · iexact Hc
    isplitl [HR]; · iexact HR
    isplitl [HO]; · iexact HO
    iapply Hnext; rw [wpost_ne A 0 _ c _ hq, wpost_ne A 2 _ c _ hq]
    isplitl [Hat Hpay]
    · isplitl [Hat] <;> iassumption
    isplitl [Hat2] <;> iassumption
  · have hq : (⟨n, hn⟩ : Dev nD) = c := by by_contra h'; exact hc (hC.mpr h')
    rw [dif_neg hc, he hc]
    refine BIBase.Entails.trans ?_ h
    iintro ⟨#Hc, HR, HO, Hf⟩
    ihave Hf' := (fam_next _ _ hn) $$ Hf
    icases Hf' with ⟨HP, Hnext⟩
    isplitr; · iexact Hc
    isplitl [HR]; · iexact HR
    isplitl [HO]; · iexact HO
    iapply Hnext; rw [← wpre_self A 0 _ c _ hq, ← wpre_self A 2 _ c _ hq]; iexact HP

end Cert.K

end
-- ==== Proof.Ops.lean ====
/-
The kernel's loads and stores of its own memory, each with the value it reads or leaves.
-/
module

public import proofs.«01_k».proof.Proof.Phases

@[expose] public section

set_option maxRecDepth 16384

noncomputable section

namespace Cert.K

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.SparseCore.ProtocolKit

variable {F : FTy → Type} [FloatOps F] [Named F]

local notation "𝕄" => MT nD τ sig Unit (Elt F) ℕ UU ℕ

variable (I : Ins F)

/-! ## The state of the computing part -/

/-- The staged inputs. -/
def InPts (c : Dev nD) : sProp 𝕄 :=
  iprop((((c : Thread nD τ).loc cc0_stg0_0) ↦{fullShare} I.x) ∗ (((c : Thread nD τ).loc cc0_stg1_0) ↦{fullShare} I.wq)
    ∗ (((c : Thread nD τ).loc cc0_stg2_0) ↦{fullShare} I.k) ∗ (((c : Thread nD τ).loc cc0_stg3_0) ↦{fullShare} I.v)
    ∗ (((c : Thread nD τ).loc cc0_stg4_0) ↦{fullShare} I.wo))

/-- The context array, its first `n` heads of batch row `b` and row half `half` computed. -/
def CtxSt (c : Dev nD) (b half : Fin 2) (n : ℕ) : sProp 𝕄 :=
  iprop(∃ f : Vec F S2x512x512 .bf16, ⌜∀ i : S2x512x512.Idx, (i 0).val = b.val → 256 * half.val ≤ (i 1).val → (i 1).val < 256 * half.val + 256 → (i 2).val < 64 * n → f i = ctxV I i⌝
    ∗ (((c : Thread nD τ).loc cc0_scratch1) ↦{fullShare} f))

/-- One half of the partial product's rows, the first `nb` batch rows computed. -/
def AccSt (c : Dev nD) (half : Fin 2) (nb : ℕ) : sProp 𝕄 :=
  iprop(∃ f : Vec F S2x512x768 .bf16, ⌜∀ i : S2x512x768.Idx, (i 0).val < nb → 256 * half.val ≤ (i 1).val → (i 1).val < 256 * half.val + 256 → f i = accV I i⌝
    ∗ accPts c (rowS (256 * half.val) (256 * half.val + 256)) f)

def CS (c : Dev nD) (b half : Fin 2) (n nb : ℕ) (Y : sProp 𝕄) : sProp 𝕄 :=
  iprop(InPts I c ∗ CtxSt I c b half n ∗ AccSt I c half nb ∗ Y)

/-! ## Loads of the inputs -/

theorem idx2_ext {d : Fin 2 → Nat} {x y : (⟨2, d⟩ : Shape).Idx} (h0 : (x 0).val = (y 0).val) (h1 : (x 1).val = (y 1).val) : x = y := by
  funext a
  match a with
  | ⟨0, _⟩ => exact Fin.ext h0
  | ⟨1, _⟩ => exact Fin.ext h1

section Loads
variable {α : Type} {c : Dev nD} {b half : Fin 2} {n nb : ℕ}

theorem ld_wq {Q : α → sProp 𝕄} {Y : sProp 𝕄} {off : Fin 2 → ℕ} (hoff : off = ![0, 0]) {inb} {hl} {k : Vec F S768x512 .bf16 → Prog (TpuEff nD τ sig (Elt F) Λ₀ .tc) α}
    (h : CS I c b half n nb Y ⊢ WPo c (k I.wq) Q) :
    CS I c b half n nb Y ⊢ WPo c (.op (.load (Memref.whole cc0_stg1_0 : Memref sig .tc .vmem S768x512 .bf16) (Rect.unit (s := S768x512) off S768x512.size inb).toLoadRect hl) k) Q := by
  subst hoff
  unfold CS InPts at h ⊢
  iintro ⟨⟨H0, H1, H2⟩, HR⟩
  iapply (wp_load 𝒱₀ (c : Thread nD τ) none Set.univ (m := (Memref.whole cc0_stg1_0 : Memref sig .tc .vmem S768x512 .bf16)) (Finset.subset_univ _)) $$ H1; iintro H1
  have e : (Memref.whole cc0_stg1_0 : Memref sig .tc .vmem S768x512 .bf16).view.readAt (Elt F) (Rect.unit (s := S768x512) ![0, 0] S768x512.size inb).toLoadRect I.wq = I.wq := by
    funext j
    refine congrArg I.wq (idx2_ext ?_ ?_)
    · show 0 + 1 * (j 0).val = (j 0).val; omega
    · show 0 + 1 * (j 1).val = (j 1).val; omega
  rw [e]
  iapply h
  isplitr [HR]
  · isplitl [H0]; · iexact H0
    isplitl [H1] <;> iassumption
  iexact HR

theorem ld_wo {Q : α → sProp 𝕄} {Y : sProp 𝕄} {off : Fin 2 → ℕ} (hoff : off = ![0, 0]) {inb} {hl} {k : Vec F S512x768 .bf16 → Prog (TpuEff nD τ sig (Elt F) Λ₀ .tc) α}
    (h : CS I c b half n nb Y ⊢ WPo c (k I.wo) Q) :
    CS I c b half n nb Y ⊢ WPo c (.op (.load (Memref.whole cc0_stg4_0 : Memref sig .tc .vmem S512x768 .bf16) (Rect.unit (s := S512x768) off S512x768.size inb).toLoadRect hl) k) Q := by
  subst hoff
  unfold CS InPts at h ⊢
  iintro ⟨⟨H0, H1, H2, H3, H4⟩, HR⟩
  iapply (wp_load 𝒱₀ (c : Thread nD τ) none Set.univ (m := (Memref.whole cc0_stg4_0 : Memref sig .tc .vmem S512x768 .bf16)) (Finset.subset_univ _)) $$ H4; iintro H4
  have e : (Memref.whole cc0_stg4_0 : Memref sig .tc .vmem S512x768 .bf16).view.readAt (Elt F) (Rect.unit (s := S512x768) ![0, 0] S512x768.size inb).toLoadRect I.wo = I.wo := by
    funext j
    refine congrArg I.wo (idx2_ext ?_ ?_)
    · show 0 + 1 * (j 0).val = (j 0).val; omega
    · show 0 + 1 * (j 1).val = (j 1).val; omega
  rw [e]
  iapply h
  isplitr [HR]
  · isplitl [H0]; · iexact H0
    isplitl [H1]; · iexact H1
    isplitl [H2]; · iexact H2
    isplitl [H3] <;> iassumption
  iexact HR

theorem ld_x (b' : Fin 2) {Q : α → sProp 𝕄} {Y : sProp 𝕄} {off : Fin 3 → ℕ} (hoff : off = ![b'.val, 0, 0]) {inb} {hl} {k : Vec F S1x512x768 .bf16 → Prog (TpuEff nD τ sig (Elt F) Λ₀ .tc) α}
    (h : CS I c b half n nb Y ⊢ WPo c (k (xBlk I.x b')) Q) :
    CS I c b half n nb Y ⊢ WPo c (.op (.load (Memref.whole cc0_stg0_0 : Memref sig .tc .vmem S2x512x768 .bf16) (Rect.unit (s := S2x512x768) off S1x512x768.size inb).toLoadRect hl) k) Q := by
  subst hoff
  unfold CS InPts at h ⊢
  iintro ⟨⟨H0, H1⟩, HR⟩
  iapply (wp_load 𝒱₀ (c : Thread nD τ) none Set.univ (m := (Memref.whole cc0_stg0_0 : Memref sig .tc .vmem S2x512x768 .bf16)) (Finset.subset_univ _)) $$ H0; iintro H0
  have e : (Memref.whole cc0_stg0_0 : Memref sig .tc .vmem S2x512x768 .bf16).view.readAt (Elt F) (Rect.unit (s := S2x512x768) ![b'.val, 0, 0] S1x512x768.size inb).toLoadRect I.x = xBlk I.x b' := by
    funext j
    have h0 : (j 0).val < 1 := (j 0).isLt
    refine congrArg I.x (Shape.idx3_ext ?_ ?_ ?_)
    · show b'.val + 1 * (j 0).val = b'.val; omega
    · show 0 + 1 * (j 1).val = (j 1).val; omega
    · show 0 + 1 * (j 2).val = (j 2).val; omega
  rw [e]
  iapply h
  isplitr [HR]
  · isplitl [H0] <;> iassumption
  iexact HR

theorem read_head (m : Ref sig .tc) (b' : Fin 2) (h' : Fin 8) (f : Vec F S2x512x8x64 .bf16) {inb} (j : S1x512x1x64.Idx) :
    f ((Rect.unit (s := S2x512x8x64) ![b'.val, 0, h'.val, 0] S1x512x1x64.size inb).toLoadRect.idx j) = kBlk f b' h' j := by
  have h0 : (j 0).val < 1 := (j 0).isLt
  have h2 : (j 2).val < 1 := (j 2).isLt
  refine congrArg f (idx4_ext ?_ ?_ ?_ ?_)
  · show b'.val + 1 * (j 0).val = b'.val; omega
  · show 0 + 1 * (j 1).val = (j 1).val; omega
  · show h'.val + 1 * (j 2).val = h'.val; omega
  · show 0 + 1 * (j 3).val = (j 3).val; omega

theorem ld_k (b' : Fin 2) (h' : Fin 8) {Q : α → sProp 𝕄} {Y : sProp 𝕄} {off : Fin 4 → ℕ} (hoff : off = ![b'.val, 0, h'.val, 0]) {inb} {hl} {k : Vec F S1x512x1x64 .bf16 → Prog (TpuEff nD τ sig (Elt F) Λ₀ .tc) α}
    (h : CS I c b half n nb Y ⊢ WPo c (k (kBlk I.k b' h')) Q) :
    CS I c b half n nb Y ⊢ WPo c (.op (.load (Memref.whole cc0_stg2_0 : Memref sig .tc .vmem S2x512x8x64 .bf16) (Rect.unit (s := S2x512x8x64) off S1x512x1x64.size inb).toLoadRect hl) k) Q := by
  subst hoff
  unfold CS InPts at h ⊢
  iintro ⟨⟨H0, H1, H2, H3⟩, HR⟩
  iapply (wp_load 𝒱₀ (c : Thread nD τ) none Set.univ (m := (Memref.whole cc0_stg2_0 : Memref sig .tc .vmem S2x512x8x64 .bf16)) (Finset.subset_univ _)) $$ H2; iintro H2
  have e : (Memref.whole cc0_stg2_0 : Memref sig .tc .vmem S2x512x8x64 .bf16).view.readAt (Elt F) (Rect.unit (s := S2x512x8x64) ![b'.val, 0, h'.val, 0] S1x512x1x64.size inb).toLoadRect I.k = kBlk I.k b' h' :=
    funext fun j => read_head cc0_stg2_0 b' h' I.k j
  rw [e]
  iapply h
  isplitr [HR]
  · isplitl [H0]; · iexact H0
    isplitl [H1]; · iexact H1
    isplitl [H2] <;> iassumption
  iexact HR

theorem ld_v (b' : Fin 2) (h' : Fin 8) {Q : α → sProp 𝕄} {Y : sProp 𝕄} {off : Fin 4 → ℕ} (hoff : off = ![b'.val, 0, h'.val, 0]) {inb} {hl} {k : Vec F S1x512x1x64 .bf16 → Prog (TpuEff nD τ sig (Elt F) Λ₀ .tc) α}
    (h : CS I c b half n nb Y ⊢ WPo c (k (kBlk I.v b' h')) Q) :
    CS I c b half n nb Y ⊢ WPo c (.op (.load (Memref.whole cc0_stg3_0 : Memref sig .tc .vmem S2x512x8x64 .bf16) (Rect.unit (s := S2x512x8x64) off S1x512x1x64.size inb).toLoadRect hl) k) Q := by
  subst hoff
  unfold CS InPts at h ⊢
  iintro ⟨⟨H0, H1, H2, H3, H4⟩, HR⟩
  iapply (wp_load 𝒱₀ (c : Thread nD τ) none Set.univ (m := (Memref.whole cc0_stg3_0 : Memref sig .tc .vmem S2x512x8x64 .bf16)) (Finset.subset_univ _)) $$ H3; iintro H3
  have e : (Memref.whole cc0_stg3_0 : Memref sig .tc .vmem S2x512x8x64 .bf16).view.readAt (Elt F) (Rect.unit (s := S2x512x8x64) ![b'.val, 0, h'.val, 0] S1x512x1x64.size inb).toLoadRect I.v = kBlk I.v b' h' :=
    funext fun j => read_head cc0_stg3_0 b' h' I.v j
  rw [e]
  iapply h
  isplitr [HR]
  · isplitl [H0]; · iexact H0
    isplitl [H1]; · iexact H1
    isplitl [H2]; · iexact H2
    isplitl [H3] <;> iassumption
  iexact HR

/-! ## The context array and the partial product -/

/-- A load whose value is not used. -/
theorem ld_ctx {Q : α → sProp 𝕄} {Y : sProp 𝕄} {r : LoadRect S2x512x512} {hl} {k : (r.shape.Idx → Elt F .bf16) → Prog (TpuEff nD τ sig (Elt F) Λ₀ .tc) α}
    (h : ∀ v, CS I c b half n nb Y ⊢ WPo c (k v) Q) :
    CS I c b half n nb Y ⊢ WPo c (.op (.load (Memref.whole cc0_scratch1 : Memref sig .tc .vmem S2x512x512 .bf16) r hl) k) Q := by
  unfold CS CtxSt at h ⊢
  iintro ⟨HI, ⟨%f, %hf, Hx⟩, HR⟩
  iapply (wp_load 𝒱₀ (c : Thread nD τ) none Set.univ (m := (Memref.whole cc0_scratch1 : Memref sig .tc .vmem S2x512x512 .bf16)) (Finset.subset_univ _)) $$ Hx; iintro Hx
  iapply (h _)
  isplitl [HI]; · iexact HI
  isplitl [Hx]
  · iexists f; isplitr; · (ipureintro; exact hf)
    iexact Hx
  iexact HR

theorem st_ctx (h' : Fin 8) {Q : α → sProp 𝕄} {Y : sProp 𝕄} {off : Fin 3 → ℕ} (hoff : off = ![b.val, 256 * half.val, 64 * h'.val]) (hn : h'.val = n) {inb}
    {w : Vec F S1x256x64 .bf16} (hw : w = I.head b half h') {hx} {hm} {k : PUnit → Prog (TpuEff nD τ sig (Elt F) Λ₀ .tc) α}
    (h : CS I c b half (n + 1) nb Y ⊢ WPo c (k ⟨⟩) Q) :
    CS I c b half n nb Y ⊢ WPo c (.op (.store (Memref.whole cc0_scratch1 : Memref sig .tc .vmem S2x512x512 .bf16) (Rect.unit (s := S2x512x512) off S1x256x64.size inb) w Finset.univ hx hm) k) Q := by
  subst hoff hw
  unfold CS CtxSt at h ⊢
  iintro ⟨HI, ⟨%f, %hf, Hx⟩, HR⟩
  iapply (wp_store 𝒱₀ (c : Thread nD τ) none Set.univ (m := (Memref.whole cc0_scratch1 : Memref sig .tc .vmem S2x512x512 .bf16))
    (r := Rect.unit (s := S2x512x512) ![b.val, 256 * half.val, 64 * h'.val] S1x256x64.size inb) (Mk := Finset.univ) (Finset.subset_univ _)) $$ Hx; iintro Hx
  iapply h
  isplitl [HI]; · iexact HI
  isplitl [Hx]
  · iexists _; isplitr
    rotate_left
    · iexact Hx
    · ipureintro
      intro i h0 h1 h1' h2
      by_cases hi : i ∈ ((Memref.whole cc0_scratch1 : Memref sig .tc .vmem S2x512x512 .bf16).access (Rect.unit (s := S2x512x512) ![b.val, 256 * half.val, 64 * h'.val] S1x256x64.size inb)).set
      · obtain ⟨j, -, rfl⟩ := Finset.mem_map.mp hi
        refine (View.write_emb_of_mem _ _ (Finset.mem_univ j)).trans ?_
        have b0 : (j 0).val < 1 := (j 0).isLt
        refine (ctxV_at I b half h' _ j ?_ ?_ ?_).symm
        · show b.val + 1 * (j 0).val = b.val; omega
        · show 256 * half.val + 1 * (j 1).val = 256 * half.val + (j 1).val; omega
        · show 64 * h'.val + 1 * (j 2).val = 64 * h'.val + (j 2).val; omega
      · refine (View.write_of_not_mem _ _ _ hi).trans (hf i h0 h1 h1' ?_)
        by_contra hge
        refine hi ?_
        rw [show ((Memref.whole cc0_scratch1 : Memref sig .tc .vmem S2x512x512 .bf16).access (Rect.unit (s := S2x512x512) ![b.val, 256 * half.val, 64 * h'.val] S1x256x64.size inb)).set = _ from View.set_slice_whole cc0_scratch1 _, Rect.mem_set_unit]
        intro a
        match a with
        | ⟨0, _⟩ => show b.val ≤ (i 0).val ∧ (i 0).val < b.val + 1; omega
        | ⟨1, _⟩ => show 256 * half.val ≤ (i 1).val ∧ (i 1).val < 256 * half.val + 256; omega
        | ⟨2, _⟩ => show 64 * h'.val ≤ (i 2).val ∧ (i 2).val < 64 * h'.val + 64; omega
  iexact HR

theorem ld_rows {Q : α → sProp 𝕄} {Y : sProp 𝕄} (hn : n = 8) {off : Fin 3 → ℕ} (hoff : off = ![b.val, 256 * half.val, 0]) {inb} {hl} {k : Vec F S1x256x512 .bf16 → Prog (TpuEff nD τ sig (Elt F) Λ₀ .tc) α}
    (h : CS I c b half n nb Y ⊢ WPo c (k (rowsOf (ctxV I) b half)) Q) :
    CS I c b half n nb Y ⊢ WPo c (.op (.load (Memref.whole cc0_scratch1 : Memref sig .tc .vmem S2x512x512 .bf16) (Rect.unit (s := S2x512x512) off S1x256x512.size inb).toLoadRect hl) k) Q := by
  subst hoff hn
  unfold CS CtxSt at h ⊢
  iintro ⟨HI, ⟨%f, %hf, Hx⟩, HR⟩
  iapply (wp_load 𝒱₀ (c : Thread nD τ) none Set.univ (m := (Memref.whole cc0_scratch1 : Memref sig .tc .vmem S2x512x512 .bf16)) (Finset.subset_univ _)) $$ Hx; iintro Hx
  have e : (Memref.whole cc0_scratch1 : Memref sig .tc .vmem S2x512x512 .bf16).view.readAt (Elt F) (Rect.unit (s := S2x512x512) ![b.val, 256 * half.val, 0] S1x256x512.size inb).toLoadRect f = rowsOf (ctxV I) b half := by
    funext j
    have b0 : (j 0).val < 1 := (j 0).isLt
    have b1 : (j 1).val < 256 := (j 1).isLt
    have b2 : (j 2).val < 512 := (j 2).isLt
    have ei : (Rect.unit (s := S2x512x512) ![b.val, 256 * half.val, 0] S1x256x512.size inb).toLoadRect.idx j
        = (ix3 b ⟨256 * half.val + (j 1).val, by omega⟩ (j 2) : S2x512x512.Idx) := by
      refine Shape.idx3_ext ?_ ?_ ?_
      · show b.val + 1 * (j 0).val = b.val; omega
      · show 256 * half.val + 1 * (j 1).val = 256 * half.val + (j 1).val; omega
      · show 0 + 1 * (j 2).val = (j 2).val; omega
    refine (congrArg f ei).trans (hf _ rfl ?_ ?_ ?_)
    · show 256 * half.val ≤ 256 * half.val + (j 1).val; omega
    · show 256 * half.val + (j 1).val < 256 * half.val + 256; omega
    · show (j 2).val < 64 * 8; omega
  rw [e]
  iapply h
  isplitl [HI]; · iexact HI
  isplitl [Hx]
  · iexists f; isplitr; · (ipureintro; exact hf)
    iexact Hx
  iexact HR

theorem acc_rows_sub {off : Fin 3 → ℕ} (b' half' : Fin 2) (hoff : off = ![b'.val, 256 * half'.val, 0]) {inb} :
    (Rect.unit (s := S2x512x768) off S1x256x768.size inb).set ⊆ rowS (256 * half'.val) (256 * half'.val + 256) := by
  subst hoff
  intro i hi
  rw [Rect.mem_set_unit] at hi
  rw [mem_rowS]
  exact hi 1

theorem ld_acc (b' : Fin 2) {Q : α → sProp 𝕄} {Y : sProp 𝕄} {off : Fin 3 → ℕ} (hoff : off = ![b'.val, 256 * half.val, 0]) {inb} {hl} {k : Vec F S1x256x768 .bf16 → Prog (TpuEff nD τ sig (Elt F) Λ₀ .tc) α}
    (h : ∀ v, CS I c b half n nb Y ⊢ WPo c (k v) Q) :
    CS I c b half n nb Y ⊢ WPo c (.op (.load accR (Rect.unit (s := S2x512x768) off S1x256x768.size inb).toLoadRect hl) k) Q := by
  unfold CS AccSt accPts at h ⊢
  iintro ⟨HI, HC, ⟨%f, %hf, Hx⟩, HR⟩
  iapply (wp_load_rect 𝒱₀ (c : Thread nD τ) none Set.univ (m := accR) (r := Rect.unit (s := S2x512x768) off S1x256x768.size inb)
    (by rw [show (accR.access (Rect.unit (s := S2x512x768) off S1x256x768.size inb)).set = _ from View.set_slice_whole cc0_scratch0 _]; exact acc_rows_sub b' half hoff)) $$ Hx; iintro Hx
  iapply (h _)
  isplitl [HI]; · iexact HI
  isplitl [HC]; · iexact HC
  isplitl [Hx]
  · iexists f; isplitr; · (ipureintro; exact hf)
    iexact Hx
  iexact HR

theorem st_acc (b' : Fin 2) {Q : α → sProp 𝕄} {Y : sProp 𝕄} {off : Fin 3 → ℕ} (hoff : off = ![b'.val, 256 * half.val, 0]) (hb : b'.val = nb) {inb}
    {w : Vec F S1x256x768 .bf16} (hw : w = I.proj b' half) {hx} {hm} {k : PUnit → Prog (TpuEff nD τ sig (Elt F) Λ₀ .tc) α}
    (h : CS I c b half n (nb + 1) Y ⊢ WPo c (k ⟨⟩) Q) :
    CS I c b half n nb Y ⊢ WPo c (.op (.store accR (Rect.unit (s := S2x512x768) off S1x256x768.size inb) w Finset.univ hx hm) k) Q := by
  subst hw
  have hset : (accR.access (Rect.unit (s := S2x512x768) off S1x256x768.size inb)).set = (Rect.unit (s := S2x512x768) off S1x256x768.size inb).set := View.set_slice_whole cc0_scratch0 _
  unfold CS AccSt accPts at h ⊢
  iintro ⟨HI, HC, ⟨%f, %hf, Hx⟩, HR⟩
  iapply (wp_store 𝒱₀ (c : Thread nD τ) none Set.univ (m := accR) (r := Rect.unit (s := S2x512x768) off S1x256x768.size inb) (Mk := Finset.univ)
    (by rw [View.setOn_univ, hset]; exact acc_rows_sub b' half hoff)) $$ Hx; iintro Hx
  subst hoff
  iapply h
  isplitl [HI]; · iexact HI
  isplitl [HC]; · iexact HC
  isplitl [Hx]
  · iexists _; isplitr
    rotate_left
    · iexact Hx
    · ipureintro
      intro i h0 h1 h1'
      by_cases hi : i ∈ (accR.access (Rect.unit (s := S2x512x768) ![b'.val, 256 * half.val, 0] S1x256x768.size inb)).set
      · obtain ⟨j, -, rfl⟩ := Finset.mem_map.mp hi
        refine (View.write_emb_of_mem _ _ (Finset.mem_univ j)).trans ?_
        have b0 : (j 0).val < 1 := (j 0).isLt
        refine (accV_at I b' half _ j ?_ ?_ ?_).symm
        · show b'.val + 1 * (j 0).val = b'.val; omega
        · show 256 * half.val + 1 * (j 1).val = 256 * half.val + (j 1).val; omega
        · show 0 + 1 * (j 2).val = (j 2).val; omega
      · refine (View.write_of_not_mem _ _ _ hi).trans (hf i ?_ h1 h1')
        by_contra hge
        refine hi ?_
        rw [hset, Rect.mem_set_unit]
        have b2 : (i 2).val < 768 := (i 2).isLt
        intro a
        match a with
        | ⟨0, _⟩ => show b'.val ≤ (i 0).val ∧ (i 0).val < b'.val + 1; omega
        | ⟨1, _⟩ => show 256 * half.val ≤ (i 1).val ∧ (i 1).val < 256 * half.val + 256; omega
        | ⟨2, _⟩ => show 0 ≤ (i 2).val ∧ (i 2).val < 0 + 768; omega
  iexact HR

end Loads

/-! ## Turning from one batch row, and one half, to the next -/

theorem cs_next (c : Dev nD) (b half b' : Fin 2) (n nb : ℕ) (Y : sProp 𝕄) : CS I c b half n nb Y ⊢ CS I c b' half 0 nb Y := by
  unfold CS CtxSt
  iintro ⟨HI, ⟨%f, %hf, Hx⟩, HR⟩
  isplitl [HI]; · iexact HI
  isplitl [Hx]
  · iexists f; isplitr
    · ipureintro; intro i _ _ _ h; exact absurd h (Nat.not_lt_zero _)
    iexact Hx
  iexact HR

theorem acc_done (c : Dev nD) (half : Fin 2) : AccSt I c half 2 ⊢ accPts c (rowS (256 * half.val) (256 * half.val + 256)) (accV I) := by
  unfold AccSt accPts
  iintro ⟨%f, %hf, Hx⟩
  have e : ((((c : Thread nD τ).loc cc0_scratch0) ↦[rowS (256 * half.val) (256 * half.val + 256)]{fullShare} f) : sProp 𝕄)
      = (((c : Thread nD τ).loc cc0_scratch0) ↦[rowS (256 * half.val) (256 * half.val + 256)]{fullShare} (accV I)) :=
    pointsTo_congr fun i hi => by
      rw [mem_rowS] at hi
      exact hf i (i 0).isLt hi.1 hi.2
  iapply (Entails.of_eq e)
  iexact Hx

/-- Half the partial product done: its rows leave the state, the other half's come in. -/
theorem cs_half (c : Dev nD) (b half b' half' : Fin 2) (n : ℕ) (Y : sProp 𝕄) :
    CS I c b half n 2 iprop(AccSt I c half' 0 ∗ Y) ⊢ CS I c b' half' 0 0 iprop(accPts c (rowS (256 * half.val) (256 * half.val + 256)) (accV I) ∗ Y) := by
  unfold CS CtxSt
  iintro ⟨HI, ⟨%f, %hf, Hx⟩, HA, HA', HR⟩
  isplitl [HI]; · iexact HI
  isplitl [Hx]
  · iexists f; isplitr
    · ipureintro; intro i _ _ _ h; exact absurd h (Nat.not_lt_zero _)
    iexact Hx
  isplitl [HA']; · iexact HA'
  isplitl [HA]; · iapply (acc_done I c half); iexact HA
  iexact HR

end Cert.K

end
-- ==== Proof.Compute.lean ====
/-
The computing parts of the kernel's body: the projections of one device's heads, half the rows at a time.
-/
module

public import proofs.«01_k».proof.Proof.Ops

@[expose] public section

set_option maxRecDepth 65536

noncomputable section

namespace Cert.K

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ UU ℕ

/-- A part of the body at the launch's buffers and semaphores. -/
abbrev bufs {β : Type 1} (p : (arg0 : Memref sig .tc .vmem S2x512x768 .bf16) → arg0.IsWhole → (arg1 : Memref sig .tc .vmem S768x512 .bf16) → arg1.IsWhole → (arg2 : Memref sig .tc .vmem S2x512x8x64 .bf16) → arg2.IsWhole → (arg3 : Memref sig .tc .vmem S2x512x8x64 .bf16) → arg3.IsWhole → (arg4 : Memref sig .tc .vmem S512x768 .bf16) → arg4.IsWhole → (arg5 : Memref sig .tc .vmem S2x512x768 .bf16) → arg5.IsWhole → (arg6 : Memref sig .tc .vmem S2x512x768 .bf16) → arg6.IsWhole → (arg7 : Memref sig .tc .vmem S2x512x512 .bf16) → arg7.IsWhole → (arg8 : Memref sig .tc .vmem S8x2x64x768 .bf16) → arg8.IsWhole → DmaSems sig S8 → DmaSems sig S8 → DmaSems sig S8 → DmaSems sig S8 → β) : β :=
  p (Memref.whole cc0_stg0_0) (Memref.isWhole_whole _) (Memref.whole cc0_stg1_0) (Memref.isWhole_whole _) (Memref.whole cc0_stg2_0) (Memref.isWhole_whole _)
    (Memref.whole cc0_stg3_0) (Memref.isWhole_whole _) (Memref.whole cc0_stg4_0) (Memref.isWhole_whole _) (Memref.whole cc0_stg5_0) (Memref.isWhole_whole _)
    (Memref.whole cc0_scratch0) (Memref.isWhole_whole _) (Memref.whole cc0_scratch1) (Memref.isWhole_whole _) (Memref.whole cc0_scratch2) (Memref.isWhole_whole _)
    cc0_scratch3 cc0_scratch4 cc0_scratch5 cc0_scratch6

theorem ret_step {α : Type} {c : Dev nD} {Q : α → sProp 𝕄} {P : sProp 𝕄} {a : α} (h : P ⊢ Q a) : P ⊢ WPo c (.ret a) Q := by
  show P ⊢ wp frame (wpE (defs₀ (F := F)) 𝒱₀ (c : Thread nD τ) none) Set.univ (.ret a) Q
  rw [wp_ret]
  exact h.trans fupd_intro

variable (I : Ins F) (c : Dev nD)

theorem part4 {Y : sProp 𝕄} {Q : _ → sProp 𝕄} (h : CS I c 0 0 1 0 Y ⊢ Q ⟨I.wos, I.q 0, I.q 1, k0_pay10 (kBlk I.k 0 1)⟩) :
    CS I c 0 0 0 0 Y ⊢ WPo c (bufs (k0_part4 (F := F)) biasV I.wqs) Q := by
  rw [k0_part4_eq_skeleton]; unfold bufs k0_part4_skel
  simp only [Prog.lift, Prog.bind_op, Prog.bind_ret, Prog.pure_eq_ret]
  refine ld_wo I rfl ?_
  refine ld_x I 0 rfl ?_
  refine ld_x I 1 rfl ?_
  refine ld_k I 0 0 rfl ?_
  refine ld_v I 0 0 rfl ?_
  refine ld_ctx I fun _ => ?_
  refine st_ctx I 0 rfl rfl rfl ?_
  refine ld_k I 0 1 rfl ?_
  exact ret_step h

theorem part5 {Y : sProp 𝕄} {Q : _ → sProp 𝕄} (h : CS I c 0 0 2 0 Y ⊢ Q (k0_pay12 biasV (I.q 0) (kBlk I.k 0 2) (kBlk I.v 0 2))) :
    CS I c 0 0 1 0 Y ⊢ WPo c (bufs (k0_part5 (F := F)) biasV (I.q 0) (k0_pay10 (kBlk I.k 0 1))) Q := by
  rw [k0_part5_eq_skeleton]; unfold bufs k0_part5_skel
  simp only [Prog.lift, Prog.bind_op, Prog.bind_ret, Prog.pure_eq_ret]
  refine ld_v I 0 1 rfl ?_
  refine ld_ctx I fun _ => ?_
  refine st_ctx I 1 rfl rfl rfl ?_
  refine ld_k I 0 2 rfl ?_
  refine ld_v I 0 2 rfl ?_
  exact ret_step h

theorem part6 {Y : sProp 𝕄} {Q : _ → sProp 𝕄} (h : CS I c 0 0 4 0 Y ⊢ Q ⟨k0_pay15 biasV (I.q 0) (kBlk I.k 0 4), k0_pay16 biasV (I.q 0) (kBlk I.k 0 4)⟩) :
    CS I c 0 0 2 0 Y ⊢ WPo c (bufs (k0_part6 (F := F)) biasV (I.q 0) (k0_pay12 biasV (I.q 0) (kBlk I.k 0 2) (kBlk I.v 0 2))) Q := by
  rw [k0_part6_eq_skeleton]; unfold bufs k0_part6_skel
  simp only [Prog.lift, Prog.bind_op, Prog.bind_ret, Prog.pure_eq_ret]
  refine ld_ctx I fun _ => ?_
  refine st_ctx I 2 rfl rfl rfl ?_
  refine ld_k I 0 3 rfl ?_
  refine ld_v I 0 3 rfl ?_
  refine ld_ctx I fun _ => ?_
  refine st_ctx I 3 rfl rfl rfl ?_
  refine ld_k I 0 4 rfl ?_
  exact ret_step h

theorem part7 {Y : sProp 𝕄} {Q : _ → sProp 𝕄} (h : CS I c 0 0 6 0 Y ⊢ Q (k0_pay19 biasV (I.q 0) (kBlk I.k 0 6))) :
    CS I c 0 0 4 0 Y ⊢ WPo c (bufs (k0_part7 (F := F)) biasV (I.q 0) (k0_pay15 biasV (I.q 0) (kBlk I.k 0 4)) (k0_pay16 biasV (I.q 0) (kBlk I.k 0 4))) Q := by
  rw [k0_part7_eq_skeleton]; unfold bufs k0_part7_skel
  simp only [Prog.lift, Prog.bind_op, Prog.bind_ret, Prog.pure_eq_ret]
  refine ld_v I 0 4 rfl ?_
  refine ld_ctx I fun _ => ?_
  refine st_ctx I 4 rfl rfl rfl ?_
  refine ld_k I 0 5 rfl ?_
  refine ld_v I 0 5 rfl ?_
  refine ld_ctx I fun _ => ?_
  refine st_ctx I 5 rfl rfl rfl ?_
  refine ld_k I 0 6 rfl ?_
  exact ret_step h

theorem part8 {Y : sProp 𝕄} {Q : _ → sProp 𝕄} (h : CS I c 0 0 8 0 Y ⊢ Q ⟨⟩) :
    CS I c 0 0 6 0 Y ⊢ WPo c (bufs (k0_part8 (F := F)) biasV (I.q 0) (k0_pay19 biasV (I.q 0) (kBlk I.k 0 6))) Q := by
  rw [k0_part8_eq_skeleton]; unfold bufs k0_part8_skel
  simp only [Prog.lift, Prog.bind_op, Prog.bind_ret, Prog.pure_eq_ret]
  refine ld_v I 0 6 rfl ?_
  refine ld_ctx I fun _ => ?_
  refine st_ctx I 6 rfl rfl rfl ?_
  refine ld_k I 0 7 rfl ?_
  refine ld_v I 0 7 rfl ?_
  refine ld_ctx I fun _ => ?_
  refine st_ctx I 7 rfl rfl rfl ?_
  exact ret_step h

theorem part9 {Y : sProp 𝕄} {Q : _ → sProp 𝕄} (h : CS I c 1 0 1 1 Y ⊢ Q (k0_pay24 biasV (I.q 1) (kBlk I.k 1 1))) :
    CS I c 0 0 8 0 Y ⊢ WPo c (bufs (k0_part9 (F := F)) biasV I.wos (I.q 1)) Q := by
  rw [k0_part9_eq_skeleton]; unfold bufs k0_part9_skel
  simp only [Prog.lift, Prog.bind_op, Prog.bind_ret, Prog.pure_eq_ret]
  refine ld_rows I rfl rfl ?_
  refine ld_acc I 0 rfl fun _ => ?_
  refine st_acc I 0 rfl rfl rfl ?_
  refine (cs_next I c 0 0 1 8 1 Y).trans ?_
  refine ld_k I 1 0 rfl ?_
  refine ld_v I 1 0 rfl ?_
  refine ld_ctx I fun _ => ?_
  refine st_ctx I 0 rfl rfl rfl ?_
  refine ld_k I 1 1 rfl ?_
  exact ret_step h

theorem part10 {Y : sProp 𝕄} {Q : _ → sProp 𝕄} (h : CS I c 1 0 3 1 Y ⊢ Q ⟨⟩) :
    CS I c 1 0 1 1 Y ⊢ WPo c (bufs (k0_part10 (F := F)) biasV (I.q 1) (k0_pay24 biasV (I.q 1) (kBlk I.k 1 1))) Q := by
  rw [k0_part10_eq_skeleton]; unfold bufs k0_part10_skel
  simp only [Prog.lift, Prog.bind_op, Prog.bind_ret, Prog.pure_eq_ret]
  refine ld_v I 1 1 rfl ?_
  refine ld_ctx I fun _ => ?_
  refine st_ctx I 1 rfl rfl rfl ?_
  refine ld_k I 1 2 rfl ?_
  refine ld_v I 1 2 rfl ?_
  refine ld_ctx I fun _ => ?_
  refine st_ctx I 2 rfl rfl rfl ?_
  exact ret_step h

theorem part11 {Y : sProp 𝕄} {Q : _ → sProp 𝕄}
    (h : CS I c 1 0 4 1 Y ⊢ Q ⟨k0_pay29 biasV (I.q 1) (kBlk I.k 1 4) (kBlk I.v 1 4), k0_pay30 biasV (I.q 1) (kBlk I.k 1 4)⟩) :
    CS I c 1 0 3 1 Y ⊢ WPo c (bufs (k0_part11 (F := F)) biasV (I.q 1)) Q := by
  rw [k0_part11_eq_skeleton]; unfold bufs k0_part11_skel
  simp only [Prog.lift, Prog.bind_op, Prog.bind_ret, Prog.pure_eq_ret]
  refine ld_k I 1 3 rfl ?_
  refine ld_v I 1 3 rfl ?_
  refine ld_ctx I fun _ => ?_
  refine st_ctx I 3 rfl rfl rfl ?_
  refine ld_k I 1 4 rfl ?_
  refine ld_v I 1 4 rfl ?_
  exact ret_step h

theorem part12 {Y : sProp 𝕄} {Q : _ → sProp 𝕄}
    (h : CS I c 1 0 6 1 Y ⊢ Q ⟨k0_pay33 biasV (I.q 1) (kBlk I.k 1 6), k0_pay34 biasV (I.q 1) (kBlk I.k 1 6)⟩) :
    CS I c 1 0 4 1 Y ⊢ WPo c (bufs (k0_part12 (F := F)) biasV (I.q 1) (k0_pay29 biasV (I.q 1) (kBlk I.k 1 4) (kBlk I.v 1 4)) (k0_pay30 biasV (I.q 1) (kBlk I.k 1 4))) Q := by
  rw [k0_part12_eq_skeleton]; unfold bufs k0_part12_skel
  simp only [Prog.lift, Prog.bind_op, Prog.bind_ret, Prog.pure_eq_ret]
  refine ld_ctx I fun _ => ?_
  refine st_ctx I 4 rfl rfl rfl ?_
  refine ld_k I 1 5 rfl ?_
  refine ld_v I 1 5 rfl ?_
  refine ld_ctx I fun _ => ?_
  refine st_ctx I 5 rfl rfl rfl ?_
  refine ld_k I 1 6 rfl ?_
  exact ret_step h

theorem part13 {Y : sProp 𝕄} {Q : _ → sProp 𝕄}
    (h : CS I c 1 0 8 1 Y ⊢ Q ⟨k0_pay37 (rowsOf (ctxV I) 1 0), constant S256x768 .f32 0x00000000#32⟩) :
    CS I c 1 0 6 1 Y ⊢ WPo c (bufs (k0_part13 (F := F)) biasV (I.q 1) (k0_pay33 biasV (I.q 1) (kBlk I.k 1 6)) (k0_pay34 biasV (I.q 1) (kBlk I.k 1 6))) Q := by
  rw [k0_part13_eq_skeleton]; unfold bufs k0_part13_skel
  simp only [Prog.lift, Prog.bind_op, Prog.bind_ret, Prog.pure_eq_ret]
  refine ld_v I 1 6 rfl ?_
  refine ld_ctx I fun _ => ?_
  refine st_ctx I 6 rfl rfl rfl ?_
  refine ld_k I 1 7 rfl ?_
  refine ld_v I 1 7 rfl ?_
  refine ld_ctx I fun _ => ?_
  refine st_ctx I 7 rfl rfl rfl ?_
  refine ld_rows I rfl rfl ?_
  exact ret_step h

/-! ## The second half of the rows -/

theorem part15 {Y : sProp 𝕄} {Q : _ → sProp 𝕄}
    (h : CS I c 0 1 2 0 Y ⊢ Q ⟨k0_pay42 biasV (I.q 0) (kBlk I.k 0 2), k0_pay43 biasV (I.q 0) (kBlk I.k 0 2)⟩) :
    CS I c 0 1 0 0 Y ⊢ WPo c (bufs (k0_part15 (F := F)) biasV (I.q 0) (k0_pay39 biasV (I.q 0) (kBlk I.k 0 0) (kBlk I.v 0 0))) Q := by
  rw [k0_part15_eq_skeleton]; unfold bufs k0_part15_skel
  simp only [Prog.lift, Prog.bind_op, Prog.bind_ret, Prog.pure_eq_ret]
  refine ld_ctx I fun _ => ?_
  refine st_ctx I 0 rfl rfl rfl ?_
  refine ld_k I 0 1 rfl ?_
  refine ld_v I 0 1 rfl ?_
  refine ld_ctx I fun _ => ?_
  refine st_ctx I 1 rfl rfl rfl ?_
  refine ld_k I 0 2 rfl ?_
  exact ret_step h

theorem part16 {Y : sProp 𝕄} {Q : _ → sProp 𝕄}
    (h : CS I c 0 1 4 0 Y ⊢ Q ⟨k0_pay46 (kBlk I.k 0 4), k0_pay47 (I.q 0)⟩) :
    CS I c 0 1 2 0 Y ⊢ WPo c (bufs (k0_part16 (F := F)) biasV (I.q 0) (k0_pay42 biasV (I.q 0) (kBlk I.k 0 2)) (k0_pay43 biasV (I.q 0) (kBlk I.k 0 2))) Q := by
  rw [k0_part16_eq_skeleton]; unfold bufs k0_part16_skel
  simp only [Prog.lift, Prog.bind_op, Prog.bind_ret, Prog.pure_eq_ret]
  refine ld_v I 0 2 rfl ?_
  refine ld_ctx I fun _ => ?_
  refine st_ctx I 2 rfl rfl rfl ?_
  refine ld_k I 0 3 rfl ?_
  refine ld_v I 0 3 rfl ?_
  refine ld_ctx I fun _ => ?_
  refine st_ctx I 3 rfl rfl rfl ?_
  refine ld_k I 0 4 rfl ?_
  exact ret_step h

theorem part17 {Y : sProp 𝕄} {Q : _ → sProp 𝕄}
    (h : ∀ z, CS I c 0 1 5 0 Y ⊢ Q ⟨k0_pay49 biasV (I.q 0) (kBlk I.k 0 5) (kBlk I.v 0 5), z⟩) :
    CS I c 0 1 4 0 Y ⊢ WPo c (bufs (k0_part17 (F := F)) biasV (I.q 0) (k0_pay46 (kBlk I.k 0 4)) (k0_pay47 (I.q 0))) Q := by
  rw [k0_part17_eq_skeleton]; unfold bufs k0_part17_skel
  simp only [Prog.lift, Prog.bind_op, Prog.bind_ret, Prog.pure_eq_ret]
  refine ld_v I 0 4 rfl ?_
  refine ld_ctx I fun _ => ?_
  refine st_ctx I 4 rfl rfl rfl ?_
  refine ld_k I 0 5 rfl ?_
  refine ld_v I 0 5 rfl ?_
  refine ld_ctx I fun z => ?_
  exact ret_step (h z)

theorem part18 {Y : sProp 𝕄} {Q : _ → sProp 𝕄}
    (h : CS I c 0 1 7 0 Y ⊢ Q ⟨k0_pay52 biasV (I.q 0) (kBlk I.k 0 7), k0_pay53 biasV (I.q 0) (kBlk I.k 0 7), kBlk I.v 0 7⟩) (z) :
    CS I c 0 1 5 0 Y ⊢ WPo c (bufs (k0_part18 (F := F)) biasV (I.q 0) (k0_pay49 biasV (I.q 0) (kBlk I.k 0 5) (kBlk I.v 0 5)) z) Q := by
  rw [k0_part18_eq_skeleton]; unfold bufs k0_part18_skel
  simp only [Prog.lift, Prog.bind_op, Prog.bind_ret, Prog.pure_eq_ret]
  refine st_ctx I 5 rfl rfl rfl ?_
  refine ld_k I 0 6 rfl ?_
  refine ld_v I 0 6 rfl ?_
  refine ld_ctx I fun _ => ?_
  refine st_ctx I 6 rfl rfl rfl ?_
  refine ld_k I 0 7 rfl ?_
  refine ld_v I 0 7 rfl ?_
  exact ret_step h

theorem part19 {Y : sProp 𝕄} {Q : _ → sProp 𝕄}
    (h : ∀ z, CS I c 1 1 0 1 Y ⊢ Q ⟨k0_pay56 biasV (I.q 1) (kBlk I.k 1 0) (kBlk I.v 1 0), z⟩) :
    CS I c 0 1 7 0 Y ⊢ WPo c (bufs (k0_part19 (F := F)) biasV I.wos (I.q 1) (k0_pay52 biasV (I.q 0) (kBlk I.k 0 7)) (k0_pay53 biasV (I.q 0) (kBlk I.k 0 7)) (kBlk I.v 0 7)) Q := by
  rw [k0_part19_eq_skeleton]; unfold bufs k0_part19_skel
  simp only [Prog.lift, Prog.bind_op, Prog.bind_ret, Prog.pure_eq_ret]
  refine ld_ctx I fun _ => ?_
  refine st_ctx I 7 rfl rfl rfl ?_
  refine ld_rows I rfl rfl ?_
  refine ld_acc I 0 rfl fun _ => ?_
  refine st_acc I 0 rfl rfl rfl ?_
  refine (cs_next I c 0 1 1 8 1 Y).trans ?_
  refine ld_k I 1 0 rfl ?_
  refine ld_v I 1 0 rfl ?_
  refine ld_ctx I fun z => ?_
  exact ret_step (h z)

theorem part20 {Y : sProp 𝕄} {Q : _ → sProp 𝕄}
    (h : CS I c 1 1 2 1 Y ⊢ Q ⟨k0_pay59 biasV (I.q 1) (kBlk I.k 1 2), k0_pay60 biasV (I.q 1) (kBlk I.k 1 2), kBlk I.v 1 2⟩) (z) :
    CS I c 1 1 0 1 Y ⊢ WPo c (bufs (k0_part20 (F := F)) biasV (I.q 1) (k0_pay56 biasV (I.q 1) (kBlk I.k 1 0) (kBlk I.v 1 0)) z) Q := by
  rw [k0_part20_eq_skeleton]; unfold bufs k0_part20_skel
  simp only [Prog.lift, Prog.bind_op, Prog.bind_ret, Prog.pure_eq_ret]
  refine st_ctx I 0 rfl rfl rfl ?_
  refine ld_k I 1 1 rfl ?_
  refine ld_v I 1 1 rfl ?_
  refine ld_ctx I fun _ => ?_
  refine st_ctx I 1 rfl rfl rfl ?_
  refine ld_k I 1 2 rfl ?_
  refine ld_v I 1 2 rfl ?_
  exact ret_step h

theorem part21 {Y : sProp 𝕄} {Q : _ → sProp 𝕄}
    (h : CS I c 1 1 4 1 Y ⊢ Q (k0_pay63 biasV (I.q 1) (kBlk I.k 1 4))) :
    CS I c 1 1 2 1 Y ⊢ WPo c (bufs (k0_part21 (F := F)) biasV (I.q 1) (k0_pay59 biasV (I.q 1) (kBlk I.k 1 2)) (k0_pay60 biasV (I.q 1) (kBlk I.k 1 2)) (kBlk I.v 1 2)) Q := by
  rw [k0_part21_eq_skeleton]; unfold bufs k0_part21_skel
  simp only [Prog.lift, Prog.bind_op, Prog.bind_ret, Prog.pure_eq_ret]
  refine ld_ctx I fun _ => ?_
  refine st_ctx I 2 rfl rfl rfl ?_
  refine ld_k I 1 3 rfl ?_
  refine ld_v I 1 3 rfl ?_
  refine ld_ctx I fun _ => ?_
  refine st_ctx I 3 rfl rfl rfl ?_
  refine ld_k I 1 4 rfl ?_
  exact ret_step h

theorem part22 {Y : sProp 𝕄} {Q : _ → sProp 𝕄} (h : CS I c 1 1 6 1 Y ⊢ Q ⟨⟩) :
    CS I c 1 1 4 1 Y ⊢ WPo c (bufs (k0_part22 (F := F)) biasV (I.q 1) (k0_pay63 biasV (I.q 1) (kBlk I.k 1 4))) Q := by
  rw [k0_part22_eq_skeleton]; unfold bufs k0_part22_skel
  simp only [Prog.lift, Prog.bind_op, Prog.bind_ret, Prog.pure_eq_ret]
  refine ld_v I 1 4 rfl ?_
  refine ld_ctx I fun _ => ?_
  refine st_ctx I 4 rfl rfl rfl ?_
  refine ld_k I 1 5 rfl ?_
  refine ld_v I 1 5 rfl ?_
  refine ld_ctx I fun _ => ?_
  refine st_ctx I 5 rfl rfl rfl ?_
  exact ret_step h

theorem part23 {Y : sProp 𝕄} {Q : _ → sProp 𝕄}
    (h : CS I c 1 1 7 1 Y ⊢ Q (k0_pay67 biasV (I.q 1) (kBlk I.k 1 7) (kBlk I.v 1 7))) :
    CS I c 1 1 6 1 Y ⊢ WPo c (bufs (k0_part23 (F := F)) biasV (I.q 1)) Q := by
  rw [k0_part23_eq_skeleton]; unfold bufs k0_part23_skel
  simp only [Prog.lift, Prog.bind_op, Prog.bind_ret, Prog.pure_eq_ret]
  refine ld_k I 1 6 rfl ?_
  refine ld_v I 1 6 rfl ?_
  refine ld_ctx I fun _ => ?_
  refine st_ctx I 6 rfl rfl rfl ?_
  refine ld_k I 1 7 rfl ?_
  refine ld_v I 1 7 rfl ?_
  exact ret_step h

/-! ## The loads of the two weight matrices -/

end Cert.K

end
-- ==== Proof.Comm.lean ====
/-
The communicating parts of the kernel's body, over the steps of the exchanges: the handshake, the two groups of four
transfers of the first exchange, its landings, the second exchange and the closing waits.
-/
module
public import proofs.«01_k».proof.Proof.Compute
public import proofs.«01_k».proof.Proof.Phases
@[expose] public section

set_option maxRecDepth 65536
noncomputable section
namespace Cert.K
open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.SparseCore.ProtocolKit

variable {F : FTy → Type} [FloatOps F] [Named F]

local notation "𝕄" => MT nD τ sig Unit (Elt F) ℕ UU ℕ

variable (A : Dev nD → Vec F S2x512x768 .bf16) (K : Dev nD × Cell → ℕ)

/-! ## The sites' semaphores and places -/

theorem sem_s1 (q : Dev nD) {off : Fin 1 → ℕ} (e : off = ![q.val]) (h : ∀ a, off a + S1.size a ≤ S8.size a) :
    ((cc0_scratch3.slice (Rect.unit (s := S8) off S1.size h)).squeeze S_ squeezes_S1_S_).sem = dsem 0 q := by
  subst e; revert q; decide
theorem sem_r1 (q : Dev nD) {off : Fin 1 → ℕ} (e : off = ![q.val]) (h : ∀ a, off a + S1.size a ≤ S8.size a) :
    ((cc0_scratch4.slice (Rect.unit (s := S8) off S1.size h)).squeeze S_ squeezes_S1_S_).sem = dsem 1 q := by
  subst e; revert q; decide
theorem sem_s2 (q : Dev nD) {off : Fin 1 → ℕ} (e : off = ![q.val]) (h : ∀ a, off a + S1.size a ≤ S8.size a) :
    ((cc0_scratch5.slice (Rect.unit (s := S8) off S1.size h)).squeeze S_ squeezes_S1_S_).sem = dsem 2 q := by
  subst e; revert q; decide
theorem sem_r2 (q : Dev nD) {off : Fin 1 → ℕ} (e : off = ![q.val]) (h : ∀ a, off a + S1.size a ≤ S8.size a) :
    ((cc0_scratch6.slice (Rect.unit (s := S8) off S1.size h)).squeeze S_ squeezes_S1_S_).sem = dsem 3 q := by
  subst e; revert q; decide

theorem slot_at (c : Dev nD) {off : Fin 4 → ℕ} (e : off = ![c.val, 0, 0, 0]) (h : ∀ a, off a + S1x2x64x768.size a ≤ S8x2x64x768.size a) :
    (stgR.slice (Rect.unit (s := S8x2x64x768) off S1x2x64x768.size h) (fun _ => rfl)).squeeze S2x64x768 squeezes_S1x2x64x768_S2x64x768 = slotOf c := by
  subst e; rfl
theorem chunk_at (m : Memref sig .tc .vmem S2x512x768 .bf16) (c : Dev nD) {off : Fin 3 → ℕ} (e : off = ![0, 64 * c.val, 0])
    (h : ∀ a, off a + S2x64x768.size a ≤ S2x512x768.size a) :
    m.slice (Rect.unit (s := S2x512x768) off S2x64x768.size h) (fun _ => rfl) = chunkOf m c := by
  subst e; rfl

/-- The running device as the program's word. -/
abbrev devW (c : Dev nD) : BitVec 32 := Scalar.remsi (Scalar.divsi (Dev.word c) 1#32) 8#32

/-- The program's test that the running device is not device `n`. -/
theorem guard : ∀ n c : Dev nD, Scalar.cmpi .ne (Scalar.extui (Scalar.cmpi .ne (devW c) (BitVec.ofNat 32 n.val) : BitVec 1) : BitVec 32) 0#32 = 1#1 ↔ n ≠ c := by
  decide

/-! ## The handshake -/

attribute [local irreducible] Idealize.SL.Sem.wp

theorem part1 {Q : _ → sProp 𝕄} {R : sProp 𝕄} (c : Dev nD)
    (h : iprop(Cx A K ∗ R ∗ ow c (owedS1 c 0) ∗ atPos ER (barCell c) 1 ∅ 0 ∗ bigSep (Finset.univ.erase c) (land c)) ⊢
      Q ⟨c, devW c, iota .tc S512x512 32 [0] iota_S512x512_d0_w32, iota .tc S512x512 32 [1] iota_S512x512_d1_w32⟩) :
    iprop(Cx A K ∗ (R ∗ cred (tallyAt (barCell c) () 7) ∗ atPos ER (barCell c) 0 ∅ 0) ∗ SigSt c 0) ⊢ WPo c (bufs (k0_part1 (F := F))) Q := by
  rw [k0_part1_eq_skeleton]; unfold bufs k0_part1_skel
  simp -zeta only [Prog.lift, Prog.bind_op, Prog.bind_ret, Prog.pure_eq_ret, semSignalWord, semWaitWord]
  show _ ⊢ wp frame (wpE (defs₀ (F := F)) 𝒱₀ (c : Thread nD τ) none) Set.univ _ Q
  rw [wp_deviceId]
  refine sig_step A K (n := 0) (by decide) c (guard 0 c) (fun _ => rfl) (fun _ => rfl) (fun _ => Fin.ext k0_dev1_eq) ?_
  refine sig_step A K (n := 1) (by decide) c (guard 1 c) (fun _ => rfl) (fun _ => rfl) (fun _ => Fin.ext k0_dev2_eq) ?_
  refine sig_step A K (n := 2) (by decide) c (guard 2 c) (fun _ => rfl) (fun _ => rfl) (fun _ => Fin.ext k0_dev3_eq) ?_
  refine sig_step A K (n := 3) (by decide) c (guard 3 c) (fun _ => rfl) (fun _ => rfl) (fun _ => Fin.ext k0_dev4_eq) ?_
  refine sig_step A K (n := 4) (by decide) c (guard 4 c) (fun _ => rfl) (fun _ => rfl) (fun _ => Fin.ext k0_dev5_eq) ?_
  refine sig_step A K (n := 5) (by decide) c (guard 5 c) (fun _ => rfl) (fun _ => rfl) (fun _ => Fin.ext k0_dev6_eq) ?_
  refine sig_step A K (n := 6) (by decide) c (guard 6 c) (fun _ => rfl) (fun _ => rfl) (fun _ => Fin.ext k0_dev7_eq) ?_
  refine sig_step A K (n := 7) (by decide) c (guard 7 c) (fun _ => rfl) (fun _ => rfl) (fun _ => Fin.ext k0_dev8_eq) ?_
  unfold SigSt
  rw [owedBar_end]
  iintro ⟨#Hc, ⟨HR, Hcr, Hat⟩, HO, -⟩
  iapply (op_barWait A K c) $$ [HO Hcr Hat]
  · isplitr; · iexact Hc
    isplitl [HO]; · iexact HO
    isplitl [Hcr] <;> iassumption
  iintro ⟨HO, Hat, Hl⟩
  iapply (ret_step h)
  isplitr; · iexact Hc
  isplitl [HR]; · iexact HR
  isplitl [HO]; · iexact HO
  isplitl [Hat] <;> iassumption

variable (I : Ins F)

/-! ## The mask's rows and columns, and the first weight matrix -/

theorem part2 {Q : _ → sProp 𝕄} {P : sProp 𝕄} (c : Dev nD) (v28 v29 : IVec S512x512 32)
    (h : P ⊢ Q ⟨k0_pay1 v28, 64#32, k0_pay2 v29, k0_pay3 v29⟩) : P ⊢ WPo c (bufs (k0_part2 (F := F)) v28 v29) Q := by
  rw [k0_part2_eq_skeleton]; unfold bufs k0_part2_skel
  exact ret_step h

theorem part3 {Y : sProp 𝕄} {Q : _ → sProp 𝕄} (c : Dev nD) (h : CS I c 0 0 0 0 Y ⊢ Q ⟨biasV, I.wqs⟩) :
    CS I c 0 0 0 0 Y ⊢ WPo c (bufs (k0_part3 (F := F)) (iota .tc S512x512 32 [1] iota_S512x512_d1_w32) (k0_pay1 (iota .tc S512x512 32 [0] iota_S512x512_d0_w32)) 64#32
      (k0_pay2 (iota .tc S512x512 32 [1] iota_S512x512_d1_w32)) (k0_pay3 (iota .tc S512x512 32 [1] iota_S512x512_d1_w32))) Q := by
  rw [k0_part3_eq_skeleton]; unfold bufs k0_part3_skel
  simp -zeta only [Prog.lift, Prog.bind_op, Prog.bind_ret, Prog.pure_eq_ret]
  refine ld_wq I rfl ?_
  exact ret_step h

/-! ## The first exchange's transfers, four chunks at a time -/

/-- What the first exchange still needs after its first `n` transfers, the partial product apart. -/
def Ex1 (c : Dev nD) (n : ℕ) : sProp 𝕄 := iprop(ow c (owedS1 c n) ∗ fam (S1Pre c) (Due 0 (pay A 0 c c) c) n)

variable {A K I}

theorem ex1_in {c : Dev nD} {b half : Fin 2} {hi n : ℕ} {Z : sProp 𝕄} (hA : A c = accV I) :
    CS I c b half 0 0 iprop(accPts c (rowS (64 * n) hi) (accV I) ∗ Cx A K ∗ Ex1 A c n ∗ Z)
      ⊢ iprop(Cx A K ∗ CS I c b half 0 0 Z ∗ S1St A c hi n) := by
  unfold CS Ex1 S1St
  rw [hA]
  iintro ⟨HI, HC, HA, Hacc, #Hc, ⟨HO, Hf⟩, HZ⟩
  isplitr; · iexact Hc
  isplitr [HO Hacc Hf]
  · isplitl [HI]; · iexact HI
    isplitl [HC]; · iexact HC
    isplitl [HA] <;> iassumption
  isplitl [HO]; · iexact HO
  isplitl [Hacc] <;> iassumption

theorem ex1_out {c : Dev nD} {b half : Fin 2} {hi n : ℕ} {Z : sProp 𝕄} :
    iprop(Cx A K ∗ CS I c b half 0 0 Z ∗ S1St A c hi n) ⊢ CS I c b half 0 0 iprop(Cx A K ∗ Ex1 A c n ∗ Z) := by
  unfold CS Ex1 S1St
  iintro ⟨#Hc, ⟨HI, HC, HA, HZ⟩, HO, -, Hf⟩
  isplitl [HI]; · iexact HI
  isplitl [HC]; · iexact HC
  isplitl [HA]; · iexact HA
  isplitr; · iexact Hc
  isplitr [HZ]
  · isplitl [HO] <;> iassumption
  iexact HZ

theorem part14 {Z : sProp 𝕄} {Q : _ → sProp 𝕄} (c : Dev nD) (hA : A c = accV I)
    (h : CS I c 0 1 0 0 iprop(Cx A K ∗ Ex1 A c 4 ∗ Z) ⊢ Q (k0_pay39 biasV (I.q 0) (kBlk I.k 0 0) (kBlk I.v 0 0))) :
    CS I c 1 0 8 1 iprop(AccSt I c 1 0 ∗ Cx A K ∗ Ex1 A c 0 ∗ Z) ⊢
      WPo c (bufs (k0_part14 (F := F)) c (devW c) biasV I.wos (I.q 0) (k0_pay37 (rowsOf (ctxV I) 1 0)) (constant S256x768 .f32 0x00000000#32)) Q := by
  rw [k0_part14_eq_skeleton]; unfold bufs k0_part14_skel
  simp -zeta only [Prog.lift, Prog.bind_op, Prog.bind_ret, Prog.pure_eq_ret]
  refine ld_acc I 1 rfl fun _ => ?_
  refine st_acc I 1 rfl rfl rfl ?_
  refine (cs_half I c 1 0 0 1 8 _).trans ?_
  refine (ex1_in (A := A) (K := K) (n := 0) (hi := 256) hA).trans ?_
  refine send1_step A K (n := 0) (by decide) c (by decide) (guard 0 c) (fun _ => rfl) (fun _ => rfl) (fun _ => Fin.ext k0_dev9_eq) (fun _ => chunk_at accR 0 rfl _)
    (fun _ => slot_at c (k0_off2_eq c) _) (fun _ => sem_s1 0 rfl _) (fun _ => sem_r1 c (k0_off1_eq c) _) ?_
  refine send1_step A K (n := 1) (by decide) c (by decide) (guard 1 c) (fun _ => rfl) (fun _ => rfl) (fun _ => Fin.ext k0_dev10_eq) (fun _ => chunk_at accR 1 rfl _)
    (fun _ => slot_at c (k0_off4_eq c) _) (fun _ => sem_s1 1 rfl _) (fun _ => sem_r1 c (k0_off3_eq c) _) ?_
  refine send1_step A K (n := 2) (by decide) c (by decide) (guard 2 c) (fun _ => rfl) (fun _ => rfl) (fun _ => Fin.ext k0_dev11_eq) (fun _ => chunk_at accR 2 rfl _)
    (fun _ => slot_at c (k0_off6_eq c) _) (fun _ => sem_s1 2 rfl _) (fun _ => sem_r1 c (k0_off5_eq c) _) ?_
  refine send1_step A K (n := 3) (by decide) c (by decide) (guard 3 c) (fun _ => rfl) (fun _ => rfl) (fun _ => Fin.ext k0_dev12_eq) (fun _ => chunk_at accR 3 rfl _)
    (fun _ => slot_at c (k0_off8_eq c) _) (fun _ => sem_s1 3 rfl _) (fun _ => sem_r1 c (k0_off7_eq c) _) ?_
  refine ex1_out.trans ?_
  refine ld_k I 0 0 rfl ?_
  refine ld_v I 0 0 rfl ?_
  exact ret_step h

end Cert.K
end
-- ==== Proof.Exchange.lean ====
/-
The communicating parts after the projections: the rest of the first exchange, the reduction, the second exchange and
the closing waits.
-/
module

public import proofs.«01_k».proof.Proof.Comm

@[expose] public section

set_option maxRecDepth 65536

noncomputable section

namespace Cert.K

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.SparseCore.ProtocolKit

variable {F : FTy → Type} [FloatOps F] [Named F]

local notation "𝕄" => MT nD τ sig Unit (Elt F) ℕ UU ℕ

variable {A : Dev nD → Vec F S2x512x768 .bf16} {K : Dev nD × Cell → ℕ} {I : Ins F}

/-- The inputs and the finished context array. -/
def Keep (I : Ins F) (c : Dev nD) : sProp 𝕄 := iprop(InPts I c ∗ CtxSt I c 1 1 8)

theorem ex1_last {c : Dev nD} {Z : sProp 𝕄} (hA : A c = accV I) :
    CS I c 1 1 8 2 iprop(Cx A K ∗ Ex1 A c 4 ∗ Z) ⊢ iprop(Cx A K ∗ (Keep I c ∗ Z) ∗ S1St A c 512 4) := by
  unfold CS Ex1 S1St Keep
  rw [hA]
  iintro ⟨HI, HC, HA, #Hc, ⟨HO, Hf⟩, HZ⟩
  isplitr; · iexact Hc
  isplitr [HO HA Hf]
  · isplitr [HZ]
    · isplitl [HI] <;> iassumption
    iexact HZ
  isplitl [HO]; · iexact HO
  isplitl [HA]; · iapply (acc_done I c 1); iexact HA
  iexact Hf

/-- Chunk `c` of an array of rows. -/
def chunkV (X : Vec F S2x512x768 .bf16) (c : Dev nD) : Vec F S2x64x768 .bf16 := fun j =>
  X (ix3 (j 0) ⟨64 * c.val + (j 1).val, chunk_rows c j⟩ (j 2))

theorem chunk_ld (c : Dev nD) {α : Type} {Q : α → sProp 𝕄} {Z : sProp 𝕄} {off : Fin 3 → ℕ} (hoff : off = ![0, 64 * c.val, 0]) {inb} {hl}
    {k : Vec F S2x64x768 .bf16 → Prog (TpuEff nD τ sig (Elt F) Λ₀ .tc) α} (X : Vec F S2x512x768 .bf16)
    (h : iprop(accPts c (chunkS c) X ∗ Z) ⊢ WPo c (k (chunkV X c)) Q) :
    iprop(accPts c (chunkS c) X ∗ Z) ⊢ WPo c (.op (.load accR (Rect.unit (s := S2x512x768) off S2x64x768.size inb).toLoadRect hl) k) Q := by
  subst hoff
  unfold accPts at h ⊢
  iintro ⟨Hx, HZ⟩
  iapply (wp_load_rect 𝒱₀ (c : Thread nD τ) none Set.univ (m := accR) (r := Rect.unit (s := S2x512x768) ![0, 64 * c.val, 0] S2x64x768.size inb)
    (by rw [show (accR.access (Rect.unit (s := S2x512x768) ![0, 64 * c.val, 0] S2x64x768.size inb)).set = _ from View.set_slice_whole cc0_scratch0 _]; exact (chunk_rect c).le)) $$ Hx; iintro Hx
  have e : (accR.access (Rect.unit (s := S2x512x768) ![0, 64 * c.val, 0] S2x64x768.size inb)).read (Elt F) X = chunkV X c := by
    funext j
    exact congrArg X (chunk_emb c j)
  rw [e]
  iapply h
  isplitl [Hx] <;> iassumption

theorem slot_ld (c : Dev nD) {α : Type} {Q : α → sProp 𝕄} {Z : sProp 𝕄} {off : Fin 4 → ℕ} (hoff : off = ![c.val, 0, 0, 0]) {inb} {hl}
    {k : Vec F S1x2x64x768 .bf16 → Prog (TpuEff nD τ sig (Elt F) Λ₀ .tc) α}
    (h : ∀ v, iprop((∃ f, slotPts c c f) ∗ Z) ⊢ WPo c (k v) Q) :
    iprop((∃ f, slotPts c c f) ∗ Z) ⊢ WPo c (.op (.load stgR (Rect.unit (s := S8x2x64x768) off S1x2x64x768.size inb).toLoadRect hl) k) Q := by
  subst hoff
  unfold slotPts at h ⊢
  iintro ⟨⟨%f, Hx⟩, HZ⟩
  iapply (wp_load_rect 𝒱₀ (c : Thread nD τ) none Set.univ (m := stgR) (r := Rect.unit (s := S8x2x64x768) ![c.val, 0, 0, 0] S1x2x64x768.size inb)
    (by rw [show (stgR.access (Rect.unit (s := S8x2x64x768) ![c.val, 0, 0, 0] S1x2x64x768.size inb)).set = _ from View.set_slice_whole cc0_scratch2 _]; exact (slot_rect c).le)) $$ Hx; iintro Hx
  iapply (h _)
  isplitl [Hx]
  · iexists f; iexact Hx
  iexact HZ

theorem pay70_at (v : Vec F S2x64x768 .bf16) (j : S1x2x64x768.Idx) : k0_pay70 v j = v (ix3 (j 1) (j 2) (j 3)) := by
  have b0 : (j 0).val < 1 := (j 0).isLt
  refine shapeCast_apply (s := S2x64x768) (t := S1x2x64x768) v _ j (ix3 (j 1) (j 2) (j 3)) ?_
  rw [Shape.rowMajor_val_four, Shape.rowMajor_val_three]
  show ((j 1).val * 64 + (j 2).val) * 768 + (j 3).val = (((j 0).val * 2 + (j 1).val) * 64 + (j 2).val) * 768 + (j 3).val
  omega

/-- Device `c`'s own slot takes its own chunk. -/
theorem slot_st (c : Dev nD) {α : Type} {Q : α → sProp 𝕄} {Z : sProp 𝕄} {off : Fin 4 → ℕ} (hoff : off = ![c.val, 0, 0, 0]) {inb} {hx} {hm}
    {k : PUnit → Prog (TpuEff nD τ sig (Elt F) Λ₀ .tc) α}
    (h : iprop(slotPts c c (stgV A c) ∗ Z) ⊢ WPo c (k ⟨⟩) Q) :
    iprop((∃ f, slotPts c c f) ∗ Z) ⊢ WPo c (.op (.store stgR (Rect.unit (s := S8x2x64x768) off S1x2x64x768.size inb) (k0_pay70 (chunkV (A c) c)) Finset.univ hx hm) k) Q := by
  subst hoff
  have hset : (stgR.access (Rect.unit (s := S8x2x64x768) ![c.val, 0, 0, 0] S1x2x64x768.size inb)).set = (Rect.unit (s := S8x2x64x768) ![c.val, 0, 0, 0] S1x2x64x768.size inb).set := View.set_slice_whole cc0_scratch2 _
  unfold slotPts at h ⊢
  iintro ⟨⟨%f, Hx⟩, HZ⟩
  iapply (wp_store 𝒱₀ (c : Thread nD τ) none Set.univ (m := stgR) (r := Rect.unit (s := S8x2x64x768) ![c.val, 0, 0, 0] S1x2x64x768.size inb) (Mk := Finset.univ)
    (by rw [View.setOn_univ, hset]; exact (slot_rect c).le)) $$ Hx; iintro Hx
  iapply h
  isplitl [Hx]
  · have e : ((((c : Thread nD τ).loc cc0_scratch2) ↦[slotS c]{fullShare} ((stgR.access (Rect.unit (s := S8x2x64x768) ![c.val, 0, 0, 0] S1x2x64x768.size inb)).write (Elt F) f (k0_pay70 (chunkV (A c) c)) Finset.univ)) : sProp 𝕄)
        = (((c : Thread nD τ).loc cc0_scratch2) ↦[slotS c]{fullShare} (stgV A c)) :=
      pointsTo_congr fun i hi => by
        rw [← slot_rect c, ← hset] at hi
        obtain ⟨j, -, rfl⟩ := Finset.mem_map.mp hi
        refine (View.write_emb_of_mem _ _ (Finset.mem_univ j)).trans ?_
        have b0 : (j 0).val < 1 := (j 0).isLt
        refine (pay70_at (chunkV (A c) c) j).trans ?_
        have ei : (Rect.unit (s := S8x2x64x768) ![c.val, 0, 0, 0] S1x2x64x768.size inb).emb j = (ix4 c (j 1) (j 2) (j 3) : S8x2x64x768.Idx) := by
          refine idx4_ext ?_ ?_ ?_ ?_
          · show c.val + 1 * (j 0).val = c.val; omega
          · show 0 + 1 * (j 1).val = (j 1).val; omega
          · show 0 + 1 * (j 2).val = (j 2).val; omega
          · show 0 + 1 * (j 3).val = (j 3).val; omega
        exact (congrArg (stgV A c) ei).symm
    iapply (Entails.of_eq e)
    iexact Hx
  iexact HZ

/-- Device `c`'s own chunk of the result takes the sum. -/
theorem out_st (c : Dev nD) {α : Type} {Q : α → sProp 𝕄} {Z : sProp 𝕄} {off : Fin 3 → ℕ} (hoff : off = ![0, 64 * c.val, 0]) {inb} {hx} {hm}
    {k : PUnit → Prog (TpuEff nD τ sig (Elt F) Λ₀ .tc) α}
    (h : iprop(outPts c fullShare (chunkS c) (outV A) ∗ Z) ⊢ WPo c (k ⟨⟩) Q) :
    iprop((∃ f, outPts c fullShare (chunkS c) f) ∗ Z) ⊢ WPo c (.op (.store outR (Rect.unit (s := S2x512x768) off S2x64x768.size inb) (redV A c) Finset.univ hx hm) k) Q := by
  subst hoff
  have hset : (outR.access (Rect.unit (s := S2x512x768) ![0, 64 * c.val, 0] S2x64x768.size inb)).set = (Rect.unit (s := S2x512x768) ![0, 64 * c.val, 0] S2x64x768.size inb).set := View.set_slice_whole cc0_stg5_0 _
  unfold outPts at h ⊢
  iintro ⟨⟨%f, Hx⟩, HZ⟩
  iapply (wp_store 𝒱₀ (c : Thread nD τ) none Set.univ (m := outR) (r := Rect.unit (s := S2x512x768) ![0, 64 * c.val, 0] S2x64x768.size inb) (Mk := Finset.univ)
    (by rw [View.setOn_univ, hset]; exact (chunk_rect c).le)) $$ Hx; iintro Hx
  iapply h
  isplitl [Hx]
  · have e : ((((c : Thread nD τ).loc cc0_stg5_0) ↦[chunkS c]{fullShare} ((outR.access (Rect.unit (s := S2x512x768) ![0, 64 * c.val, 0] S2x64x768.size inb)).write (Elt F) f (redV A c) Finset.univ)) : sProp 𝕄)
        = (((c : Thread nD τ).loc cc0_stg5_0) ↦[chunkS c]{fullShare} (outV A)) :=
      pointsTo_congr fun i hi => by
        rw [← chunk_rect c, ← hset] at hi
        obtain ⟨j, -, rfl⟩ := Finset.mem_map.mp hi
        refine (View.write_emb_of_mem _ _ (Finset.mem_univ j)).trans ?_
        refine (outV_at A c _ j ?_ ?_ ?_).symm
        · show 0 + 1 * (j 0).val = (j 0).val; omega
        · show 64 * c.val + 1 * (j 1).val = 64 * c.val + (j 1).val; omega
        · show 0 + 1 * (j 2).val = (j 2).val; omega
    iapply (Entails.of_eq e)
    iexact Hx
  iexact HZ

theorem out_ld (c : Dev nD) {α : Type} {Q : α → sProp 𝕄} {Z : sProp 𝕄} {off : Fin 3 → ℕ} (hoff : off = ![0, 64 * c.val, 0]) {inb} {hl}
    {k : Vec F S2x64x768 .bf16 → Prog (TpuEff nD τ sig (Elt F) Λ₀ .tc) α}
    (h : ∀ v, iprop((∃ f, outPts c fullShare (chunkS c) f) ∗ Z) ⊢ WPo c (k v) Q) :
    iprop((∃ f, outPts c fullShare (chunkS c) f) ∗ Z) ⊢ WPo c (.op (.load outR (Rect.unit (s := S2x512x768) off S2x64x768.size inb).toLoadRect hl) k) Q := by
  subst hoff
  unfold outPts at h ⊢
  iintro ⟨⟨%f, Hx⟩, HZ⟩
  iapply (wp_load_rect 𝒱₀ (c : Thread nD τ) none Set.univ (m := outR) (r := Rect.unit (s := S2x512x768) ![0, 64 * c.val, 0] S2x64x768.size inb)
    (by rw [show (outR.access (Rect.unit (s := S2x512x768) ![0, 64 * c.val, 0] S2x64x768.size inb)).set = _ from View.set_slice_whole cc0_stg5_0 _]; exact (chunk_rect c).le)) $$ Hx; iintro Hx
  iapply (h _)
  isplitl [Hx]
  · iexists f; iexact Hx
  iexact HZ

end Cert.K

end
-- ==== Proof.Collect.lean ====
/-
Collecting the pieces that the exchanges hand back: the chunks of the partial product, the slots of the staging
buffer, the shares and the chunks of the result.
-/
module

public import proofs.«01_k».proof.Proof.Exchange

@[expose] public section

set_option maxRecDepth 65536

noncomputable section

namespace Cert.K

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit

variable {F : FTy → Type} [FloatOps F] [Named F]

local notation "𝕄" => MT nD τ sig Unit (Elt F) ℕ UU ℕ

variable {A : Dev nD → Vec F S2x512x768 .bf16} {K : Dev nD × Cell → ℕ} {I : Ins F}

omit [FloatOps F] [Named F] in
/-- A family over the devices changed at one of them. -/
theorem swap_at {Φ Ψ : Dev nD → sProp 𝕄} {P R : sProp 𝕄} (c : Dev nD) (h : ∀ q, q ≠ c → Φ q = Ψ q) (hc : iprop(Φ c ∗ P) ⊢ iprop(Ψ c ∗ R)) :
    iprop(bigSep Finset.univ Φ ∗ P) ⊢ iprop(bigSep Finset.univ Ψ ∗ R) := by
  rw [bigSep_univ_at Φ c, bigSep_univ_at Ψ c, bigSep_congr (s := Finset.univ.erase c) fun q hq => h q (Finset.ne_of_mem_erase hq)]
  iintro ⟨⟨H, HE⟩, HP⟩
  ihave H' := hc $$ [H HP]
  · isplitl [H] <;> iassumption
  icases H' with ⟨H, HR⟩
  isplitr [HR]
  · isplitl [H] <;> iassumption
  iexact HR

theorem due_own (k : Fin 4) (c : Dev nD) (X : sProp 𝕄) :
    iprop(bigSep Finset.univ (WPre k iprop(emp) c) ∗ X) ⊢ bigSep Finset.univ (WPre (F := F) k X c) := by
  refine BIBase.Entails.trans (swap_at (Ψ := WPre k X c) (R := iprop(emp)) c (fun q hq => ?_) ?_) ?_
  · rw [wpre_ne k _ c q hq, wpre_ne k _ c q hq]
  · unfold WPre Due; rw [if_pos rfl, if_pos rfl]
    iintro ⟨⟨H, -⟩, HX⟩
    isplitl
    · isplitl [H] <;> iassumption
    iempintro
  · iintro ⟨H, -⟩; iexact H

/-- Device `c`'s own chunk of the partial product, lent out of the chunks at hand. -/
theorem own_chunk (c : Dev nD) :
    bigSep Finset.univ (Due 0 (pay A 0 c c) c) ⊢ iprop(accPts c (chunkS c) (A c) ∗ (accPts c (chunkS c) (A c) -∗ bigSep Finset.univ (Due 0 (pay A 0 c c) c))) := by
  rw [bigSep_univ_at _ c]
  have e : Due 0 (pay A 0 c c) c c = accPts c (chunkS c) (A c) := if_pos rfl
  rw [e]
  iintro ⟨H, HE⟩
  isplitl [H]; · iexact H
  iintro H
  isplitl [H] <;> iassumption

theorem got_all (k : Fin 4) (c q : Dev nD) : Got A k (pay A k c c) c q = pay A k c q := by
  unfold Got; split
  · rename_i h; rw [h]
  · rfl

theorem posts (k : Fin 4) (c : Dev nD) :
    bigSep Finset.univ (WPost A k (pay A k c c) c) ⊢ iprop(bigSep Finset.univ (fun q => att (F := F) k c q 1) ∗ bigSep Finset.univ (fun q => pay A k c q)) := by
  have h : ∀ q, WPost A k (pay A k c c) c q = iprop(att (F := F) k c q 1 ∗ pay A k c q) := fun q => by unfold WPost; rw [got_all]
  rw [bigSep_congr (s := Finset.univ) fun q _ => h q, bigSep_sep']

theorem slots_cover (i : S8x2x64x768.Idx) : ∃ q ∈ (Finset.univ : Finset (Dev nD)), i ∈ slotS q := ⟨i 0, Finset.mem_univ _, mem_slotS.mpr rfl⟩
theorem slots_disjoint (d d' : Dev nD) (h : d ≠ d') : Disjoint (slotS d) (slotS d') := by
  rw [Finset.disjoint_left]; intro i hi hi'
  rw [mem_slotS] at hi hi'
  exact h (Fin.ext (hi.symm.trans hi'))
theorem chunks_cover (i : S2x512x768.Idx) : ∃ q ∈ (Finset.univ : Finset (Dev nD)), i ∈ chunkS q := by
  have h : (i 1).val < 512 := (i 1).isLt
  refine ⟨(⟨(i 1).val / 64, by change _ < 8; omega⟩ : Dev nD), Finset.mem_univ _, mem_rowS.mpr ?_⟩
  dsimp only; omega
theorem chunks_disjoint (d d' : Dev nD) (h : d ≠ d') : Disjoint (chunkS d) (chunkS d') := by
  rw [Finset.disjoint_left]; intro i hi hi'
  rw [mem_rowS] at hi hi'
  exact h (Fin.ext (by omega))

theorem stage_all (c : Dev nD) (f : Vec F S8x2x64x768 .bf16) :
    bigSep Finset.univ (fun q => slotPts c q f) = ((((c : Thread nD τ).loc cc0_scratch2) ↦{fullShare} f) : sProp 𝕄) := by
  unfold slotPts
  refine (pointsTo_biUnion (ℓ := (c : Thread nD τ).loc cc0_scratch2) (q := fullShare) (f := f) Finset.univ slotS ?_).symm.trans ?_
  · exact fun t _ t' _ h => slots_disjoint t t' h
  · exact congrArg (fun S => ((((c : Thread nD τ).loc cc0_scratch2) ↦[S]{fullShare} f) : sProp 𝕄)) (Finset.eq_univ_iff_forall.mpr fun i => Finset.mem_biUnion.mpr (slots_cover i))
theorem acc_all (c : Dev nD) (f : Vec F S2x512x768 .bf16) :
    bigSep Finset.univ (fun q => accPts c (chunkS q) f) = ((((c : Thread nD τ).loc cc0_scratch0) ↦{fullShare} f) : sProp 𝕄) := by
  unfold accPts
  refine (pointsTo_biUnion (ℓ := (c : Thread nD τ).loc cc0_scratch0) (q := fullShare) (f := f) Finset.univ chunkS ?_).symm.trans ?_
  · exact fun t _ t' _ h => chunks_disjoint t t' h
  · exact congrArg (fun S => ((((c : Thread nD τ).loc cc0_scratch0) ↦[S]{fullShare} f) : sProp 𝕄)) (Finset.eq_univ_iff_forall.mpr fun i => Finset.mem_biUnion.mpr (chunks_cover i))
theorem out_all (c : Dev nD) (f : Vec F S2x512x768 .bf16) :
    bigSep Finset.univ (fun q => outPts c fullShare (chunkS q) f) = ((((c : Thread nD τ).loc cc0_stg5_0) ↦{fullShare} f) : sProp 𝕄) := by
  unfold outPts
  refine (pointsTo_biUnion (ℓ := (c : Thread nD τ).loc cc0_stg5_0) (q := fullShare) (f := f) Finset.univ chunkS ?_).symm.trans ?_
  · exact fun t _ t' _ h => chunks_disjoint t t' h
  · exact congrArg (fun S => ((((c : Thread nD τ).loc cc0_stg5_0) ↦[S]{fullShare} f) : sProp 𝕄)) (Finset.eq_univ_iff_forall.mpr fun i => Finset.mem_biUnion.mpr (chunks_cover i))

/-- Device `c`'s own chunk of the result as the eight shares that its transfers take, and back. -/
theorem out_shares (c : Dev nD) (S : Finset S2x512x768.Idx) (f : Vec F S2x512x768 .bf16) :
    outPts c fullShare S f = bigSep Finset.univ (fun q : Dev nD => outPts c (lend q) S f) := by
  unfold outPts lend
  exact ShareLeaves.pointsTo_leaves (ℓ := (c : Thread nD τ).loc cc0_stg5_0) S f 3 fullShare

end Cert.K

end
-- ==== Proof.Reduce.lean ====
module

public import proofs.«01_k».proof.Proof.Collect

@[expose] public section

set_option maxRecDepth 65536

noncomputable section

namespace Cert.K

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit

variable {F : FTy → Type} [FloatOps F] [Named F]

local notation "𝕄" => MT nD τ sig Unit (Elt F) ℕ UU ℕ

attribute [local irreducible] Idealize.SL.Sem.wp

variable {A : Dev nD → Vec F S2x512x768 .bf16} {K : Dev nD × Cell → ℕ} {I : Ins F}

/-- What stays at hand while the device reads its own chunk. -/
def Mid (A : Dev nD → Vec F S2x512x768 .bf16) (K : Dev nD × Cell → ℕ) (I : Ins F) (c : Dev nD) (Z : sProp 𝕄) : sProp 𝕄 :=
  iprop(Cx A K ∗ Keep I c ∗ ow c (owedS2 c 0) ∗ (accPts c (chunkS c) (A c) -∗ bigSep Finset.univ (Due 0 (pay A 0 c c) c)) ∗ Z)

theorem sent1 {Z : sProp 𝕄} {c : Dev nD} :
    iprop(Cx A K ∗ (Keep I c ∗ (∃ f, slotPts (F := F) c c f) ∗ Z) ∗ S1St A c 512 8) ⊢ iprop(accPts c (chunkS c) (A c) ∗ ((∃ f, slotPts (F := F) c c f) ∗ Mid A K I c Z)) := by
  unfold S1St Mid
  rw [owedS1_end]
  iintro ⟨#Hc, ⟨HK, HS, HZ⟩, HO, -, Hf⟩
  ihave Hf := (fam_end _ _) $$ Hf
  ihave Hf := (own_chunk c) $$ Hf
  icases Hf with ⟨Ha, Hf⟩
  isplitl [Ha]; · iexact Ha
  isplitl [HS]; · iexact HS
  isplitr; · iexact Hc
  isplitl [HK]; · iexact HK
  isplitl [HO]; · iexact HO
  isplitl [Hf]; · iexact Hf
  iexact HZ

theorem sent1_rot {Z : sProp 𝕄} {c : Dev nD} :
    iprop(accPts c (chunkS c) (A c) ∗ ((∃ f, slotPts (F := F) c c f) ∗ Mid A K I c Z)) ⊢ iprop((∃ f, slotPts (F := F) c c f) ∗ (accPts c (chunkS c) (A c) ∗ Mid A K I c Z)) := by
  iintro ⟨Ha, HS, HM⟩
  isplitl [HS]; · iexact HS
  isplitl [Ha] <;> iassumption

theorem sent1_back {Z : sProp 𝕄} {c : Dev nD} :
    iprop((∃ f, slotPts (F := F) c c f) ∗ (accPts c (chunkS c) (A c) ∗ Mid A K I c Z)) ⊢
      iprop(Cx A K ∗ Keep I c ∗ ow c (owedS2 c 0) ∗ bigSep Finset.univ (Due 0 (pay A 0 c c) c) ∗ (∃ f, slotPts (F := F) c c f) ∗ Z) := by
  unfold Mid
  iintro ⟨HS, Ha, #Hc, HK, HO, Hf, HZ⟩
  ihave Hf := Hf $$ Ha
  isplitr; · iexact Hc
  isplitl [HK]; · iexact HK
  isplitl [HO]; · iexact HO
  isplitl [Hf]; · iexact Hf
  isplitl [HS] <;> iassumption

/-- The second block of rows is finished, the other four chunks leave, and the device reads its own. -/
theorem part24 {Z : sProp 𝕄} {Q : _ → sProp 𝕄} (c : Dev nD) (hA : A c = accV I)
    (h : iprop(Cx A K ∗ Keep I c ∗ ow c (owedS2 c 0) ∗ bigSep Finset.univ (Due 0 (pay A 0 c c) c) ∗ (∃ f, slotPts (F := F) c c f) ∗ Z) ⊢ Q (k0_pay70 (chunkV (A c) c))) :
    CS I c 1 1 7 1 iprop(Cx A K ∗ Ex1 A c 4 ∗ (∃ f, slotPts (F := F) c c f) ∗ Z) ⊢
      WPo c (bufs (k0_part24 (F := F)) c (devW c) I.wos (k0_pay67 biasV (I.q 1) (kBlk I.k 1 7) (kBlk I.v 1 7))) Q := by
  rw [k0_part24_eq_skeleton]; unfold bufs k0_part24_skel
  simp -zeta only [Prog.lift, Prog.bind_op, Prog.bind_ret, Prog.pure_eq_ret]
  refine ld_ctx I fun _ => ?_
  refine st_ctx I 7 rfl rfl rfl ?_
  refine ld_rows I rfl rfl ?_
  refine ld_acc I 1 rfl fun _ => ?_
  refine st_acc I 1 rfl rfl rfl ?_
  refine (ex1_last (A := A) (K := K) hA).trans ?_
  refine send1_step A K (n := 4) (by decide) c (by decide) (guard 4 c) (fun _ => rfl) (fun _ => rfl) (fun _ => Fin.ext k0_dev13_eq) (fun _ => chunk_at accR 4 rfl _)
    (fun _ => slot_at c (k0_off10_eq c) _) (fun _ => sem_s1 4 rfl _) (fun _ => sem_r1 c (k0_off9_eq c) _) ?_
  refine send1_step A K (n := 5) (by decide) c (by decide) (guard 5 c) (fun _ => rfl) (fun _ => rfl) (fun _ => Fin.ext k0_dev14_eq) (fun _ => chunk_at accR 5 rfl _)
    (fun _ => slot_at c (k0_off12_eq c) _) (fun _ => sem_s1 5 rfl _) (fun _ => sem_r1 c (k0_off11_eq c) _) ?_
  refine send1_step A K (n := 6) (by decide) c (by decide) (guard 6 c) (fun _ => rfl) (fun _ => rfl) (fun _ => Fin.ext k0_dev15_eq) (fun _ => chunk_at accR 6 rfl _)
    (fun _ => slot_at c (k0_off14_eq c) _) (fun _ => sem_s1 6 rfl _) (fun _ => sem_r1 c (k0_off13_eq c) _) ?_
  refine send1_step A K (n := 7) (by decide) c (by decide) (guard 7 c) (fun _ => rfl) (fun _ => rfl) (fun _ => Fin.ext k0_dev16_eq) (fun _ => chunk_at accR 7 rfl _)
    (fun _ => slot_at c (k0_off16_eq c) _) (fun _ => sem_s1 7 rfl _) (fun _ => sem_r1 c (k0_off15_eq c) _) ?_
  refine sent1.trans ?_
  refine chunk_ld c (k0_off17_eq c) (A c) ?_
  refine sent1_rot.trans ?_
  refine slot_ld c (k0_off18_eq c) fun _ => ?_
  exact ret_step (sent1_back.trans h)

theorem stage_ld (c : Dev nD) {α : Type} {Q : α → sProp 𝕄} {Z : sProp 𝕄} {off : Fin 4 → ℕ} (hoff : off = ![0, 0, 0, 0]) {inb} {hl}
    {k : Vec F S8x2x64x768 .bf16 → Prog (TpuEff nD τ sig (Elt F) Λ₀ .tc) α} (X : Vec F S8x2x64x768 .bf16)
    (h : iprop((((c : Thread nD τ).loc cc0_scratch2) ↦{fullShare} X) ∗ Z) ⊢ WPo c (k X) Q) :
    iprop((((c : Thread nD τ).loc cc0_scratch2) ↦{fullShare} X) ∗ Z) ⊢ WPo c (.op (.load stgR (Rect.unit (s := S8x2x64x768) off S8x2x64x768.size inb).toLoadRect hl) k) Q := by
  subst hoff
  iintro ⟨Hx, HZ⟩
  iapply (wp_load_rect 𝒱₀ (c : Thread nD τ) none Set.univ (m := stgR) (r := Rect.unit (s := S8x2x64x768) ![0, 0, 0, 0] S8x2x64x768.size inb) (Finset.subset_univ _)) $$ Hx; iintro Hx
  have e : (stgR.access (Rect.unit (s := S8x2x64x768) ![0, 0, 0, 0] S8x2x64x768.size inb)).read (Elt F) X = X := by
    funext j
    refine congrArg X (idx4_ext ?_ ?_ ?_ ?_)
    · show 0 + 1 * (j 0).val = (j 0).val; omega
    · show 0 + 1 * (j 1).val = (j 1).val; omega
    · show 0 + 1 * (j 2).val = (j 2).val; omega
    · show 0 + 1 * (j 3).val = (j 3).val; omega
  rw [e]
  iapply h
  isplitl [Hx] <;> iassumption

theorem stage_in {R : sProp 𝕄} {c : Dev nD} :
    iprop(slotPts c c (stgV A c) ∗ (Cx A K ∗ R ∗ ow c (owedS2 c 0) ∗ bigSep Finset.univ (WPre 1 iprop(emp) c))) ⊢
      iprop(Cx A K ∗ R ∗ WSt A 1 (pay A 1 c c) (owedS2 c 0) c 0) := by
  unfold WSt
  iintro ⟨HS, #Hc, HR, HO, HW⟩
  isplitr; · iexact Hc
  isplitl [HR]; · iexact HR
  isplitl [HO]; · iexact HO
  iapply (fam_start _ _)
  iapply (due_own 1 c (pay A 1 c c))
  isplitl [HW]; · iexact HW
  iapply (Entails.of_eq (show slotPts c c (stgV A c) = pay A 1 c c from rfl)); iexact HS

theorem stage_full {R : sProp 𝕄} {c : Dev nD} :
    iprop(Cx A K ∗ R ∗ WSt A 1 (pay A 1 c c) (owedS2 c 0) c 8) ⊢
      iprop((((c : Thread nD τ).loc cc0_scratch2) ↦{fullShare} (stgV A c)) ∗ (Cx A K ∗ R ∗ ow c (owedS2 c 0) ∗ bigSep Finset.univ (fun q => att (F := F) 1 c q 1))) := by
  unfold WSt
  iintro ⟨#Hc, HR, HO, Hf⟩
  ihave Hf := (fam_end _ _) $$ Hf
  ihave Hf := (posts 1 c) $$ Hf
  icases Hf with ⟨HA, HP⟩
  isplitl [HP]
  · iapply (Entails.of_eq (stage_all c (stgV A c))); iexact HP
  isplitr; · iexact Hc
  isplitl [HR]; · iexact HR
  isplitl [HO]; · iexact HO
  iexact HA

theorem stage_rot {R : sProp 𝕄} {c : Dev nD} :
    iprop(Cx A K ∗ R ∗ ow c (owedS2 c 0) ∗ (∃ f, slotPts (F := F) c c f) ∗ bigSep Finset.univ (WPre 1 iprop(emp) c)) ⊢
      iprop((∃ f, slotPts (F := F) c c f) ∗ (Cx A K ∗ R ∗ ow c (owedS2 c 0) ∗ bigSep Finset.univ (WPre (F := F) 1 iprop(emp) c))) := by
  iintro ⟨Hc, HR, HO, HS, HW⟩
  isplitl [HS]; · iexact HS
  isplitl [Hc]; · iexact Hc
  isplitl [HR]; · iexact HR
  isplitl [HO] <;> iassumption

/-- The device's own chunk joins the seven that arrive, and their sum is taken. -/
theorem part25 {R : sProp 𝕄} {Q : _ → sProp 𝕄} (c : Dev nD)
    (h : iprop((((c : Thread nD τ).loc cc0_scratch2) ↦{fullShare} (stgV A c)) ∗ (Cx A K ∗ R ∗ ow c (owedS2 c 0) ∗ bigSep Finset.univ (fun q => att (F := F) 1 c q 1))) ⊢ Q ⟨redV A c, Scalar.muli (devW c) 64#32⟩) :
    iprop(Cx A K ∗ R ∗ ow c (owedS2 c 0) ∗ (∃ f, slotPts (F := F) c c f) ∗ bigSep Finset.univ (WPre 1 iprop(emp) c)) ⊢
      WPo c (bufs (k0_part25 (F := F)) c (devW c) (k0_pay70 (chunkV (A c) c))) Q := by
  rw [k0_part25_eq_skeleton]; unfold bufs k0_part25_skel
  simp -zeta only [Prog.lift, Prog.bind_op, Prog.bind_ret, Prog.pure_eq_ret]
  refine stage_rot.trans ?_
  refine slot_st c (k0_off18_eq c) ?_
  refine (stage_in (A := A) (K := K)).trans ?_
  refine wait_step A K (n := 0) (by decide) c 1 _ (owedS2 c 0) 2 lv1 (above_S2 c 0) (guard 0 c) (fun _ => rfl) (fun _ => rfl) (by intro; rfl) (fun _ => sem_r1 0 rfl _) ?_
  refine wait_step A K (n := 1) (by decide) c 1 _ (owedS2 c 0) 2 lv1 (above_S2 c 0) (guard 1 c) (fun _ => rfl) (fun _ => rfl) (by intro; rfl) (fun _ => sem_r1 1 rfl _) ?_
  refine wait_step A K (n := 2) (by decide) c 1 _ (owedS2 c 0) 2 lv1 (above_S2 c 0) (guard 2 c) (fun _ => rfl) (fun _ => rfl) (by intro; rfl) (fun _ => sem_r1 2 rfl _) ?_
  refine wait_step A K (n := 3) (by decide) c 1 _ (owedS2 c 0) 2 lv1 (above_S2 c 0) (guard 3 c) (fun _ => rfl) (fun _ => rfl) (by intro; rfl) (fun _ => sem_r1 3 rfl _) ?_
  refine wait_step A K (n := 4) (by decide) c 1 _ (owedS2 c 0) 2 lv1 (above_S2 c 0) (guard 4 c) (fun _ => rfl) (fun _ => rfl) (by intro; rfl) (fun _ => sem_r1 4 rfl _) ?_
  refine wait_step A K (n := 5) (by decide) c 1 _ (owedS2 c 0) 2 lv1 (above_S2 c 0) (guard 5 c) (fun _ => rfl) (fun _ => rfl) (by intro; rfl) (fun _ => sem_r1 5 rfl _) ?_
  refine wait_step A K (n := 6) (by decide) c 1 _ (owedS2 c 0) 2 lv1 (above_S2 c 0) (guard 6 c) (fun _ => rfl) (fun _ => rfl) (by intro; rfl) (fun _ => sem_r1 6 rfl _) ?_
  refine wait_step A K (n := 7) (by decide) c 1 _ (owedS2 c 0) 2 lv1 (above_S2 c 0) (guard 7 c) (fun _ => rfl) (fun _ => rfl) (by intro; rfl) (fun _ => sem_r1 7 rfl _) ?_
  refine stage_full.trans ?_
  refine stage_ld c rfl (stgV A c) ?_
  exact ret_step h

/-- What the transfers of the sum need besides the shares of the chunk. -/
def S2tok (c q : Dev nD) : sProp 𝕄 :=
  if q = c then iprop(emp) else iprop((∃ f, outPts (F := F) q fullShare (chunkS c) f) ∗ dutyTok ER (dCell 2 c q) 0 0 ∗ dutyTok ER (dCell 3 q c) 0 0)

theorem sum_rot {R : sProp 𝕄} {c : Dev nD} :
    iprop(Cx A K ∗ R ∗ ow c (owedS2 c 0) ∗ (∃ f, outPts (F := F) c fullShare (chunkS c) f) ∗ bigSep Finset.univ (S2tok c) ∗ bigSep Finset.univ (WPre 3 iprop(emp) c)) ⊢
      iprop((∃ f, outPts (F := F) c fullShare (chunkS c) f) ∗ (Cx A K ∗ (R ∗ bigSep Finset.univ (WPre (F := F) 3 iprop(emp) c)) ∗ ow c (owedS2 c 0) ∗ bigSep Finset.univ (S2tok c))) := by
  iintro ⟨Hc, HR, HO, HS, HT, HW⟩
  isplitl [HS]; · iexact HS
  isplitl [Hc]; · iexact Hc
  isplitl [HR HW]
  · isplitl [HR] <;> iassumption
  isplitl [HO] <;> iassumption

theorem sum_in {R : sProp 𝕄} {c : Dev nD} :
    iprop(outPts c fullShare (chunkS c) (outV A) ∗ (Cx A K ∗ R ∗ ow c (owedS2 c 0) ∗ bigSep Finset.univ (S2tok c))) ⊢
      iprop(Cx A K ∗ R ∗ S2St A c 0) := by
  unfold S2St
  rw [out_shares]
  iintro ⟨HS, #Hc, HR, HO, HT⟩
  isplitr; · iexact Hc
  isplitl [HR]; · iexact HR
  isplitl [HO]; · iexact HO
  iapply (fam_start _ _)
  have e : bigSep Finset.univ (S2Pre A c) = iprop(bigSep Finset.univ (fun q => outPts c (lend q) (chunkS c) (outV A)) ∗ bigSep Finset.univ (S2tok (F := F) c)) :=
    bigSep_sep' _ _ _
  rw [e]
  isplitl [HS] <;> iassumption

theorem sum_sent {R : sProp 𝕄} {c : Dev nD} :
    iprop(Cx A K ∗ (R ∗ bigSep Finset.univ (WPre (F := F) 3 iprop(emp) c)) ∗ S2St A c 8) ⊢
      iprop(Cx A K ∗ (R ∗ bigSep Finset.univ (Due 2 (pay A 2 c c) c)) ∗ WSt A 3 iprop(emp) 0 c 0) := by
  unfold S2St WSt
  rw [owedS2_end]
  iintro ⟨#Hc, ⟨HR, HW⟩, HO, Hf⟩
  isplitr; · iexact Hc
  isplitl [HR Hf]
  · isplitl [HR]; · iexact HR
    iapply (fam_end _ _); iexact Hf
  isplitl [HO]; · iexact HO
  iapply (fam_start _ _); iexact HW

/-- The sum is written, leaves for the other seven devices, and the first of theirs arrives. -/
theorem part26 {R : sProp 𝕄} {Q : _ → sProp 𝕄} (c : Dev nD) (v855 : BitVec 32)
    (h : iprop(Cx A K ∗ (R ∗ bigSep Finset.univ (Due 2 (pay A 2 c c) c)) ∗ WSt A 3 iprop(emp) 0 c 1) ⊢ Q 1#32) :
    iprop(Cx A K ∗ R ∗ ow c (owedS2 c 0) ∗ (∃ f, outPts (F := F) c fullShare (chunkS c) f) ∗ bigSep Finset.univ (S2tok c) ∗ bigSep Finset.univ (WPre 3 iprop(emp) c)) ⊢
      WPo c (bufs (k0_part26 (F := F)) c (devW c) (redV A c) v855) Q := by
  rw [k0_part26_eq_skeleton]; unfold bufs k0_part26_skel
  simp -zeta only [Prog.lift, Prog.bind_op, Prog.bind_ret, Prog.pure_eq_ret]
  refine sum_rot.trans ?_
  refine out_ld c (k0_off17_eq c) fun _ => ?_
  refine out_st c (k0_off17_eq c) ?_
  refine (sum_in (A := A) (K := K)).trans ?_
  refine send2_step A K (n := 0) (by decide) c (guard 0 c) (fun _ => rfl) (fun _ => rfl) (fun _ => Fin.ext k0_dev17_eq) (fun _ => chunk_at outR c (k0_off20_eq c) _)
    (fun _ => chunk_at outR c (k0_off20_eq c) _) (fun _ => sem_s2 0 rfl _) (fun _ => sem_r2 c (k0_off19_eq c) _) ?_
  refine send2_step A K (n := 1) (by decide) c (guard 1 c) (fun _ => rfl) (fun _ => rfl) (fun _ => Fin.ext k0_dev18_eq) (fun _ => chunk_at outR c (k0_off22_eq c) _)
    (fun _ => chunk_at outR c (k0_off22_eq c) _) (fun _ => sem_s2 1 rfl _) (fun _ => sem_r2 c (k0_off21_eq c) _) ?_
  refine send2_step A K (n := 2) (by decide) c (guard 2 c) (fun _ => rfl) (fun _ => rfl) (fun _ => Fin.ext k0_dev19_eq) (fun _ => chunk_at outR c (k0_off24_eq c) _)
    (fun _ => chunk_at outR c (k0_off24_eq c) _) (fun _ => sem_s2 2 rfl _) (fun _ => sem_r2 c (k0_off23_eq c) _) ?_
  refine send2_step A K (n := 3) (by decide) c (guard 3 c) (fun _ => rfl) (fun _ => rfl) (fun _ => Fin.ext k0_dev20_eq) (fun _ => chunk_at outR c (k0_off26_eq c) _)
    (fun _ => chunk_at outR c (k0_off26_eq c) _) (fun _ => sem_s2 3 rfl _) (fun _ => sem_r2 c (k0_off25_eq c) _) ?_
  refine send2_step A K (n := 4) (by decide) c (guard 4 c) (fun _ => rfl) (fun _ => rfl) (fun _ => Fin.ext k0_dev21_eq) (fun _ => chunk_at outR c (k0_off28_eq c) _)
    (fun _ => chunk_at outR c (k0_off28_eq c) _) (fun _ => sem_s2 4 rfl _) (fun _ => sem_r2 c (k0_off27_eq c) _) ?_
  refine send2_step A K (n := 5) (by decide) c (guard 5 c) (fun _ => rfl) (fun _ => rfl) (fun _ => Fin.ext k0_dev22_eq) (fun _ => chunk_at outR c (k0_off30_eq c) _)
    (fun _ => chunk_at outR c (k0_off30_eq c) _) (fun _ => sem_s2 5 rfl _) (fun _ => sem_r2 c (k0_off29_eq c) _) ?_
  refine send2_step A K (n := 6) (by decide) c (guard 6 c) (fun _ => rfl) (fun _ => rfl) (fun _ => Fin.ext k0_dev23_eq) (fun _ => chunk_at outR c (k0_off32_eq c) _)
    (fun _ => chunk_at outR c (k0_off32_eq c) _) (fun _ => sem_s2 6 rfl _) (fun _ => sem_r2 c (k0_off31_eq c) _) ?_
  refine send2_step A K (n := 7) (by decide) c (guard 7 c) (fun _ => rfl) (fun _ => rfl) (fun _ => Fin.ext k0_dev24_eq) (fun _ => chunk_at outR c (k0_off34_eq c) _)
    (fun _ => chunk_at outR c (k0_off34_eq c) _) (fun _ => sem_s2 7 rfl _) (fun _ => sem_r2 c (k0_off33_eq c) _) ?_
  refine sum_sent.trans ?_
  refine wait_step A K (n := 0) (by decide) c 3 _ 0 3 lv3 (above_zero 3) (guard 0 c) (fun _ => rfl) (fun _ => rfl) (by intro; rfl) (fun _ => sem_r2 0 rfl _) ?_
  exact ret_step h

theorem join_in {R : sProp 𝕄} {c : Dev nD} :
    iprop(Cx A K ∗ (R ∗ (bigSep Finset.univ (fun q => att (F := F) 0 c q 0) ∗ bigSep Finset.univ (Due 0 (pay A 0 c c) c)) ∗ bigSep Finset.univ (fun q => att (F := F) 2 c q 0) ∗ bigSep Finset.univ (Due 2 (pay A 2 c c) c)) ∗ WSt A 3 iprop(emp) 0 c 8) ⊢
      iprop(Cx A K ∗ (R ∗ bigSep Finset.univ (WPost A 3 iprop(emp) c)) ∗ JSt A c 0) := by
  unfold WSt JSt
  iintro ⟨#Hc, ⟨HR, H0, H2a, H2d⟩, HO, Hf⟩
  isplitr; · iexact Hc
  isplitl [HR Hf]
  · isplitl [HR]; · iexact HR
    iapply (fam_end _ _); iexact Hf
  isplitl [HO]; · iexact HO
  iapply (fam_start _ _)
  rw [bigSep_sep']
  have e : ∀ k : Fin 4, bigSep Finset.univ (WPre k (pay A k c c) c) = iprop(bigSep Finset.univ (fun q => att (F := F) k c q 0) ∗ bigSep Finset.univ (Due k (pay A k c c) c)) :=
    fun k => bigSep_sep' _ _ _
  rw [show bigSep Finset.univ (fun q => WPre 0 (pay A 0 c c) c q) = _ from e 0, show bigSep Finset.univ (fun q => WPre 2 (pay A 2 c c) c q) = _ from e 2]
  isplitl [H0]; · iexact H0
  isplitl [H2a] <;> iassumption

/-- The other six sums arrive, and the first of the device's own transfers are waited for. -/
theorem part27 {R : sProp 𝕄} {Q : _ → sProp 𝕄} (c : Dev nD)
    (h : iprop(Cx A K ∗ (R ∗ bigSep Finset.univ (WPost A 3 iprop(emp) c)) ∗ JSt A c 3) ⊢ Q 3#32) :
    iprop(Cx A K ∗ (R ∗ (bigSep Finset.univ (fun q => att (F := F) 0 c q 0) ∗ bigSep Finset.univ (Due 0 (pay A 0 c c) c)) ∗ bigSep Finset.univ (fun q => att (F := F) 2 c q 0) ∗ bigSep Finset.univ (Due 2 (pay A 2 c c) c)) ∗ WSt A 3 iprop(emp) 0 c 1) ⊢
      WPo c (bufs (k0_part27 (F := F)) c (devW c) 1#32) Q := by
  rw [k0_part27_eq_skeleton]; unfold bufs k0_part27_skel
  simp -zeta only [Prog.lift, Prog.bind_op, Prog.bind_ret, Prog.pure_eq_ret]
  refine wait_step A K (n := 1) (by decide) c 3 _ 0 3 lv3 (above_zero 3) (guard 1 c) (fun _ => rfl) (fun _ => rfl) (by intro; rfl) (fun _ => sem_r2 1 rfl _) ?_
  refine wait_step A K (n := 2) (by decide) c 3 _ 0 3 lv3 (above_zero 3) (guard 2 c) (fun _ => rfl) (fun _ => rfl) (by intro; rfl) (fun _ => sem_r2 2 rfl _) ?_
  refine wait_step A K (n := 3) (by decide) c 3 _ 0 3 lv3 (above_zero 3) (guard 3 c) (fun _ => rfl) (fun _ => rfl) (by intro; rfl) (fun _ => sem_r2 3 rfl _) ?_
  refine wait_step A K (n := 4) (by decide) c 3 _ 0 3 lv3 (above_zero 3) (guard 4 c) (fun _ => rfl) (fun _ => rfl) (by intro; rfl) (fun _ => sem_r2 4 rfl _) ?_
  refine wait_step A K (n := 5) (by decide) c 3 _ 0 3 lv3 (above_zero 3) (guard 5 c) (fun _ => rfl) (fun _ => rfl) (by intro; rfl) (fun _ => sem_r2 5 rfl _) ?_
  refine wait_step A K (n := 6) (by decide) c 3 _ 0 3 lv3 (above_zero 3) (guard 6 c) (fun _ => rfl) (fun _ => rfl) (by intro; rfl) (fun _ => sem_r2 6 rfl _) ?_
  refine wait_step A K (n := 7) (by decide) c 3 _ 0 3 lv3 (above_zero 3) (guard 7 c) (fun _ => rfl) (fun _ => rfl) (by intro; rfl) (fun _ => sem_r2 7 rfl _) ?_
  refine join_in.trans ?_
  refine join_step A K (n := 0) (by decide) c (guard 0 c) (fun _ => rfl) (fun _ => rfl) (by intro; rfl) (by intro; rfl) (fun _ => sem_s1 0 rfl _) (fun _ => sem_s2 0 rfl _) ?_
  refine join_step A K (n := 1) (by decide) c (guard 1 c) (fun _ => rfl) (fun _ => rfl) (by intro; rfl) (by intro; rfl) (fun _ => sem_s1 1 rfl _) (fun _ => sem_s2 1 rfl _) ?_
  refine join_step A K (n := 2) (by decide) c (guard 2 c) (fun _ => rfl) (fun _ => rfl) (by intro; rfl) (by intro; rfl) (fun _ => sem_s1 2 rfl _) (fun _ => sem_s2 2 rfl _) ?_
  exact ret_step h

end Cert.K
end
-- ==== Proof.Body.lean ====
module

public import proofs.«01_k».proof.Proof.Reduce

@[expose] public section

set_option maxRecDepth 65536

noncomputable section

namespace Cert.K

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit

variable {F : FTy → Type} [FloatOps F] [Named F]

local notation "𝕄" => MT nD τ sig Unit (Elt F) ℕ UU ℕ

variable {A : Dev nD → Vec F S2x512x768 .bf16} {K : Dev nD × Cell → ℕ} {I : Ins F}

/-! ## Pads and halves -/

omit [FloatOps F] [Named F] in
theorem keep_own (Φ : Dev nD → sProp 𝕄) (c : Dev nD) :
    bigSep Finset.univ Φ ⊢ iprop(Φ c ∗ bigSep Finset.univ (fun q => if q = c then iprop(emp) else Φ q)) := by
  rw [bigSep_univ_at Φ c, bigSep_univ_at (fun q => if q = c then iprop(emp) else Φ q) c,
    bigSep_congr (s := Finset.univ.erase c) fun q hq => if_neg (Finset.ne_of_mem_erase hq), if_pos rfl]
  iintro ⟨H, HE⟩
  isplitl [H]; · iexact H
  isplitr; · iempintro
  iexact HE
omit [FloatOps F] [Named F] in
theorem drop_own (Φ : Dev nD → sProp 𝕄) (c : Dev nD) : bigSep Finset.univ Φ ⊢ bigSep (Finset.univ.erase c) Φ := by
  rw [bigSep_univ_at Φ c]
  iintro ⟨-, H⟩; iexact H
omit [FloatOps F] [Named F] in
theorem pad (Φ : Dev nD → sProp 𝕄) (c : Dev nD) :
    bigSep (Finset.univ.erase c) Φ ⊢ bigSep Finset.univ (fun q => if q = c then iprop(emp) else Φ q) := by
  rw [bigSep_univ_at (fun q => if q = c then iprop(emp) else Φ q) c,
    bigSep_congr (s := Finset.univ.erase c) (Φ := fun q => if q = c then iprop(emp) else Φ q) (Ψ := Φ) fun q hq => if_neg (Finset.ne_of_mem_erase hq), if_pos rfl]
  iintro HE
  isplitr; · iempintro
  iexact HE
omit [FloatOps F] [Named F] in
theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)
omit [FloatOps F] [Named F] in
theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

theorem halves_cover (i : S2x512x768.Idx) : i ∈ rowS 0 256 ∪ rowS 256 512 := by
  have h : (i 1).val < 512 := (i 1).isLt
  rw [Finset.mem_union, mem_rowS, mem_rowS]; omega
theorem halves_disjoint : Disjoint (rowS 0 256) (rowS 256 512) := by
  rw [Finset.disjoint_left]; intro i hi hi'
  rw [mem_rowS] at hi hi'; omega

theorem acc_halves (c : Dev nD) (f : Vec F S2x512x768 .bf16) :
    ((((c : Thread nD τ).loc cc0_scratch0) ↦{fullShare} f) : sProp 𝕄) ⊢ iprop(AccSt I c 0 0 ∗ AccSt I c 1 0) := by
  have e : ((((c : Thread nD τ).loc cc0_scratch0) ↦{fullShare} f) : sProp 𝕄) = (((c : Thread nD τ).loc cc0_scratch0) ↦[rowS 0 256 ∪ rowS 256 512]{fullShare} f) :=
    congrArg (fun S => ((((c : Thread nD τ).loc cc0_scratch0) ↦[S]{fullShare} f) : sProp 𝕄)) (Finset.eq_univ_iff_forall.mpr halves_cover).symm
  rw [e]
  refine (pointsTo_union (ℓ := (c : Thread nD τ).loc cc0_scratch0) halves_disjoint).1.trans ?_
  unfold AccSt accPts
  iintro ⟨H0, H1⟩
  isplitl [H0]
  · iexists f; isplitr
    · ipureintro; intro i h; exact absurd h (Nat.not_lt_zero _)
    iexact H0
  · iexists f; isplitr
    · ipureintro; intro i h; exact absurd h (Nat.not_lt_zero _)
    iexact H1

/-! ## What a device starts from -/

/-- The tokens of the duties that device `c` pays towards device `q`. -/
def payTok (c q : Dev nD) : sProp 𝕄 :=
  iprop(dutyTok ER (barCell q) 0 c ∗ (dutyTok ER (dCell 0 c q) 0 0 ∗ dutyTok ER (dCell 1 q c) 0 0) ∗ (dutyTok ER (dCell 2 c q) 0 0 ∗ dutyTok ER (dCell 3 q c) 0 0))
/-- Device `c`'s positions at its cells and the tokens of the duties it pays. -/
def Lin (c : Dev nD) : sProp 𝕄 :=
  iprop(atPos ER (barCell c) 0 ∅ 0 ∗ (bigSep Finset.univ fun k : Fin 4 => bigSep Finset.univ fun q : Dev nD => att (F := F) k c q 0) ∗ bigSep Finset.univ (payTok (F := F) c))

/-- What a device holds from its barrier's wait to its first transfer, besides the two arrays it computes. -/
def Z2 (c : Dev nD) : sProp 𝕄 :=
  iprop((∃ f, outPts (F := F) c fullShare (chunkS c) f) ∗ bigSep Finset.univ (S2tok (F := F) c) ∗ bigSep Finset.univ (WPre (F := F) 1 iprop(emp) c)
    ∗ bigSep Finset.univ (WPre (F := F) 3 iprop(emp) c) ∗ bigSep Finset.univ (fun q => att (F := F) 0 c q 0) ∗ bigSep Finset.univ (fun q => att (F := F) 2 c q 0)
    ∗ atPos ER (barCell c) 1 ∅ 0)

def Before (I : Ins F) (c : Dev nD) : sProp 𝕄 :=
  iprop(InPts I c ∗ (∃ f : Vec F S2x512x768 .bf16, ((c : Thread nD τ).loc cc0_scratch0) ↦{fullShare} f) ∗ (∃ f : Vec F S2x512x512 .bf16, ((c : Thread nD τ).loc cc0_scratch1) ↦{fullShare} f)
    ∗ (∃ f, slotPts (F := F) c c f) ∗ (∃ f, outPts (F := F) c fullShare (chunkS c) f)
    ∗ bigSep Finset.univ (Due (F := F) 1 iprop(emp) c) ∗ bigSep Finset.univ (Due (F := F) 3 iprop(emp) c)
    ∗ (bigSep Finset.univ fun k : Fin 4 => bigSep Finset.univ fun q : Dev nD => att (F := F) k c q 0)
    ∗ bigSep Finset.univ (fun q => iprop((dutyTok ER (dCell 0 c q) 0 0 ∗ dutyTok ER (dCell 1 q c) 0 0) ∗ (dutyTok ER (dCell 2 c q) 0 0 ∗ dutyTok ER (dCell 3 q c) 0 0))))

def Start (A : Dev nD → Vec F S2x512x768 .bf16) (K : Dev nD × Cell → ℕ) (I : Ins F) (c : Dev nD) : sProp 𝕄 :=
  iprop(Cx A K ∗ InPts I c ∗ (∃ f : Vec F S2x512x768 .bf16, ((c : Thread nD τ).loc cc0_scratch0) ↦{fullShare} f) ∗ (∃ f : Vec F S2x512x512 .bf16, ((c : Thread nD τ).loc cc0_scratch1) ↦{fullShare} f)
    ∗ (∃ f : Vec F S8x2x64x768 .bf16, ((c : Thread nD τ).loc cc0_scratch2) ↦{fullShare} f) ∗ (∃ f : Vec F S2x512x768 .bf16, ((c : Thread nD τ).loc cc0_stg5_0) ↦{fullShare} f)
    ∗ ow c (O₀ c) ∗ cred (tallyAt (barCell c) () 7) ∗ bigSep Finset.univ (Due (F := F) 1 iprop(emp) c) ∗ bigSep Finset.univ (Due (F := F) 3 iprop(emp) c) ∗ Lin (F := F) c)

/-- What a device ends with: its inputs unchanged, the reduced product in the result's buffer, every counter at zero. -/
def End (A : Dev nD → Vec F S2x512x768 .bf16) (I : Ins F) (c : Dev nD) : sProp 𝕄 :=
  iprop(InPts I c ∗ (∃ f : Vec F S2x512x768 .bf16, ((c : Thread nD τ).loc cc0_scratch0) ↦{fullShare} f) ∗ (∃ f : Vec F S2x512x512 .bf16, ((c : Thread nD τ).loc cc0_scratch1) ↦{fullShare} f)
    ∗ (∃ f : Vec F S8x2x64x768 .bf16, ((c : Thread nD τ).loc cc0_scratch2) ↦{fullShare} f) ∗ (((c : Thread nD τ).loc cc0_stg5_0) ↦{fullShare} (outV A))
    ∗ ow c 0 ∗ semVal (barCell c) 0 ∗ bigSep Finset.univ fun k : Fin 4 => bigSep Finset.univ fun q : Dev nD => semVal (dCell k c q) 0)

theorem some_slots (c : Dev nD) (f : Vec F S8x2x64x768 .bf16) :
    ((((c : Thread nD τ).loc cc0_scratch2) ↦{fullShare} f) : sProp 𝕄) ⊢ bigSep Finset.univ (fun q => iprop(∃ f, slotPts (F := F) c q f)) := by
  rw [← stage_all]
  have h : ∀ q, slotPts c q f ⊢ (iprop(∃ f, slotPts (F := F) c q f) : sProp 𝕄) := fun q => by iintro H; iexists f; iexact H
  exact bigSep_mono fun q _ => h q
theorem some_chunks (c : Dev nD) (f : Vec F S2x512x768 .bf16) :
    ((((c : Thread nD τ).loc cc0_stg5_0) ↦{fullShare} f) : sProp 𝕄) ⊢ bigSep Finset.univ (fun q => iprop(∃ f, outPts (F := F) c fullShare (chunkS q) f)) := by
  rw [← out_all]
  have h : ∀ q, outPts c fullShare (chunkS q) f ⊢ (iprop(∃ f, outPts (F := F) c fullShare (chunkS q) f) : sProp 𝕄) := fun q => by iintro H; iexists f; iexact H
  exact bigSep_mono fun q _ => h q

theorem start_split (c : Dev nD) :
    Start A K I c ⊢ iprop(Cx A K ∗ (Before I c ∗ cred (tallyAt (barCell c) () 7) ∗ atPos ER (barCell c) 0 ∅ 0) ∗ SigSt (F := F) c 0) := by
  unfold Start Before Lin SigSt
  rw [show (bigSep Finset.univ (payTok (F := F) c)) = iprop(bigSep Finset.univ (fun q => dutyTok ER (barCell q) 0 c)
      ∗ bigSep Finset.univ (fun q => iprop((dutyTok ER (dCell 0 c q) 0 0 ∗ dutyTok ER (dCell 1 q c) 0 0) ∗ (dutyTok ER (dCell 2 c q) 0 0 ∗ dutyTok ER (dCell 3 q c) 0 0)))) from bigSep_sep' _ _ _]
  iintro ⟨#Hc, HI, Hs0, Hs1, ⟨%f2, Hs2⟩, ⟨%f5, Hs5⟩, HO, Hcr, HD1, HD3, Hb, Hat, Htb, Ht⟩
  ihave Hs2 := (some_slots c f2) $$ Hs2
  ihave Hs5 := (some_chunks c f5) $$ Hs5
  ihave Hall := (show iprop(bigSep Finset.univ (fun q => dutyTok ER (barCell q) 0 c) ∗ bigSep Finset.univ (fun q => iprop(∃ f, slotPts (F := F) c q f)) ∗ bigSep Finset.univ (fun q => iprop(∃ f, outPts (F := F) c fullShare (chunkS q) f)))
      ⊢ bigSep Finset.univ (fun q => iprop(dutyTok ER (barCell q) 0 c ∗ land (F := F) q c)) from by
        rw [← bigSep_sep', ← bigSep_sep']; exact Entails.of_eq rfl) $$ [Htb Hs2 Hs5]
  · isplitl [Htb]; · iexact Htb
    isplitl [Hs2] <;> iassumption
  ihave Hall := (keep_own _ c) $$ Hall
  unfold land
  icases Hall with ⟨⟨-, Hsl, Hou⟩, Hall⟩
  isplitr; · iexact Hc
  isplitr [HO Hall]
  · isplitr [Hcr Hb]
    · isplitl [HI]; · iexact HI
      isplitl [Hs0]; · iexact Hs0
      isplitl [Hs1]; · iexact Hs1
      isplitl [Hsl]; · iexact Hsl
      isplitl [Hou]; · iexact Hou
      isplitl [HD1]; · iexact HD1
      isplitl [HD3]; · iexact HD3
      isplitl [Hat]; · iexact Hat
      iexact Ht
    isplitl [Hcr] <;> iassumption
  isplitl [HO]; · iexact HO
  iapply (fam_start _ _)
  iexact Hall

omit [Named F] in
theorem deal (c q : Dev nD) :
    iprop(land (F := F) c q ∗ ((dutyTok ER (dCell 0 c q) 0 0 ∗ dutyTok ER (dCell 1 q c) 0 0) ∗ (dutyTok ER (dCell 2 c q) 0 0 ∗ dutyTok ER (dCell 3 q c) 0 0)))
      ⊢ iprop(((∃ f, slotPts (F := F) q c f) ∗ dutyTok ER (dCell 0 c q) 0 0 ∗ dutyTok ER (dCell 1 q c) 0 0)
        ∗ ((∃ f, outPts (F := F) q fullShare (chunkS c) f) ∗ dutyTok ER (dCell 2 c q) 0 0 ∗ dutyTok ER (dCell 3 q c) 0 0)) := by
  unfold land
  iintro ⟨⟨H1, H2⟩, H3, H4⟩
  isplitl [H1 H3]
  · isplitl [H1] <;> iassumption
  · isplitl [H2] <;> iassumption

/-- After the barrier: the other devices' chunks are in hand, and the computation may start. -/
theorem entered (c : Dev nD) :
    iprop(Cx A K ∗ Before I c ∗ ow c (owedS1 c 0) ∗ atPos ER (barCell c) 1 ∅ 0 ∗ bigSep (Finset.univ.erase c) (land (F := F) c)) ⊢
      CS I c 0 0 0 0 iprop(AccSt I c 1 0 ∗ Cx A K ∗ Ex1 A c 0 ∗ ((∃ f, slotPts (F := F) c c f) ∗ Z2 (F := F) c)) := by
  unfold Before CS CtxSt Ex1 Z2
  rw [bigSep_fin4]
  iintro ⟨#Hc, ⟨HI, ⟨%f0, Hs0⟩, ⟨%f1, Hs1⟩, Hsl, Hou, HD1, HD3, ⟨Ha0, Ha1, Ha2, Ha3⟩, Ht⟩, HO, Hb, Hl⟩
  ihave Ht := (drop_own _ c) $$ Ht
  ihave Hs0 := (acc_halves (I := I) c f0) $$ Hs0
  icases Hs0 with ⟨Hh0, Hh1⟩
  ihave Hall := (show iprop(bigSep (Finset.univ.erase c) (land (F := F) c) ∗ bigSep (Finset.univ.erase c) (fun q => iprop((dutyTok ER (dCell 0 c q) 0 0 ∗ dutyTok ER (dCell 1 q c) 0 0) ∗ (dutyTok ER (dCell 2 c q) 0 0 ∗ dutyTok ER (dCell 3 q c) 0 0))))
      ⊢ iprop(bigSep (Finset.univ.erase c) (fun q => iprop((∃ f, slotPts (F := F) q c f) ∗ dutyTok ER (dCell 0 c q) 0 0 ∗ dutyTok ER (dCell 1 q c) 0 0))
        ∗ bigSep (Finset.univ.erase c) (fun q => iprop((∃ f, outPts (F := F) q fullShare (chunkS c) f) ∗ dutyTok ER (dCell 2 c q) 0 0 ∗ dutyTok ER (dCell 3 q c) 0 0))) from by
        rw [← bigSep_sep', ← bigSep_sep']
        exact bigSep_mono fun q _ => deal c q) $$ [Hl Ht]
  · isplitl [Hl] <;> iassumption
  icases Hall with ⟨H1, H2⟩
  ihave H1 := (pad _ c) $$ H1
  ihave H2 := (pad _ c) $$ H2
  isplitl [HI]; · iexact HI
  isplitl [Hs1]
  · iexists f1; isplitr
    · ipureintro; intro i _ _ _ h; exact absurd h (Nat.not_lt_zero _)
    iexact Hs1
  isplitl [Hh0]; · iexact Hh0
  isplitl [Hh1]; · iexact Hh1
  isplitr; · iexact Hc
  isplitl [HO H1]
  · isplitl [HO]; · iexact HO
    iapply (fam_start _ _); iexact H1
  isplitl [Hsl]; · iexact Hsl
  isplitl [Hou]; · iexact Hou
  isplitl [H2]; · iexact H2
  isplitl [Ha1 HD1]
  · rw [show bigSep Finset.univ (WPre (F := F) 1 iprop(emp) c) = _ from bigSep_sep' _ _ _]
    isplitl [Ha1] <;> iassumption
  isplitl [Ha3 HD3]
  · rw [show bigSep Finset.univ (WPre (F := F) 3 iprop(emp) c) = _ from bigSep_sep' _ _ _]
    isplitl [Ha3] <;> iassumption
  isplitl [Ha0]; · iexact Ha0
  isplitl [Ha2]; · iexact Ha2
  iexact Hb

/-! ## Closing -/

theorem att_close (k : Fin 4) (c q : Dev nD) : iprop(Cx A K ∗ att (F := F) k c q 1) ⊢ |={Set.univ}=> semVal (dCell k c q) 0 := by
  refine (sep_mono_left (cx_inv A K k c q)).trans ?_
  unfold att
  refine Rounds.cell_close ER (rd A) (Set.mem_univ (K (c, .inr (k, q)))) (fun h => h) fun r hr => ?_
  by_cases h : q = c
  · subst h; exact duties_self_all A k q r
  · rw [if_neg h] at hr; exact duties_later A _ r hr
theorem bar_close (c : Dev nD) : iprop(Cx A K ∗ atPos ER (barCell c) 1 ∅ 0) ⊢ |={Set.univ}=> semVal (barCell c) 0 :=
  (sep_mono_left (cx_inv_bar A K c)).trans (Rounds.cell_close ER (rd A) (Set.mem_univ _) (fun h => h) fun r hr => duties_later A _ r hr)

/-- Device `c`'s result buffer from the shares of its own chunk and the seven chunks that arrived. -/
theorem out_done (c : Dev nD) :
    iprop(bigSep Finset.univ (fun q => pay A 2 c q) ∗ bigSep Finset.univ (Got A 3 iprop(emp) c)) ⊢ ((((c : Thread nD τ).loc cc0_stg5_0) ↦{fullShare} (outV A)) : sProp 𝕄) := by
  rw [← out_all, show bigSep Finset.univ (fun q => pay A 2 c q) = _ from (out_shares c (chunkS c) (outV A)).symm]
  refine (sep_comm.1).trans (BIBase.Entails.trans (swap_at (Ψ := fun q => outPts c fullShare (chunkS q) (outV A)) (R := iprop(emp)) c (fun q hq => if_neg hq) ?_) ?_)
  · iintro ⟨-, H⟩
    isplitl; · iexact H
    iempintro
  · iintro ⟨H, -⟩; iexact H

theorem finish (c : Dev nD) :
    iprop(Cx A K ∗ (((Keep I c ∗ atPos ER (barCell c) 1 ∅ 0) ∗ (((c : Thread nD τ).loc cc0_scratch2) ↦{fullShare} (stgV A c)) ∗ bigSep Finset.univ (fun q => att (F := F) 1 c q 1))
      ∗ bigSep Finset.univ (WPost A 3 iprop(emp) c)) ∗ JSt A c 8) ⊢ |={Set.univ}=> End A I c := by
  unfold JSt Keep CtxSt
  rw [show bigSep Finset.univ (WPost A 3 iprop(emp) c) = iprop(bigSep Finset.univ (fun q => att (F := F) 3 c q 1) ∗ bigSep Finset.univ (Got A 3 iprop(emp) c)) from bigSep_sep' _ _ _]
  iintro ⟨#Hc, ⟨⟨⟨⟨HI, ⟨%f1, -, Hs1⟩⟩, Hb⟩, Hs2, Ha1⟩, Ha3, Hg⟩, HO, Hf⟩
  ihave Hf := (fam_end _ _) $$ Hf
  ihave Hf := (Entails.of_eq (bigSep_sep' (M := 𝕄) _ _ _)) $$ Hf
  icases Hf with ⟨H0, H2⟩
  ihave H0 := (posts 0 c) $$ H0
  ihave H2 := (posts 2 c) $$ H2
  icases H0 with ⟨Ha0, Hp0⟩
  icases H2 with ⟨Ha2, Hp2⟩
  imod (bar_close (A := A) (K := K) c) $$ [Hb] with Hb
  · isplitr; · iexact Hc
    iexact Hb
  imod (show iprop(Cx A K ∗ bigSep Finset.univ fun k : Fin 4 => bigSep Finset.univ fun q : Dev nD => att (F := F) k c q 1)
      ⊢ |={Set.univ}=> bigSep Finset.univ fun k : Fin 4 => bigSep Finset.univ fun q : Dev nD => semVal (dCell k c q) 0 from
        BIBase.Entails.trans (with_persistent fun k _ => BIBase.Entails.trans (with_persistent fun q _ => att_close k c q) (bigSep_fupd _ _)) (bigSep_fupd _ _)) $$ [Ha0 Ha1 Ha2 Ha3] with Hz
  · isplitr; · iexact Hc
    rw [bigSep_fin4]
    isplitl [Ha0]; · iexact Ha0
    isplitl [Ha1]; · iexact Ha1
    isplitl [Ha2] <;> iassumption
  imodintro
  unfold End
  isplitl [HI]; · iexact HI
  isplitl [Hp0]
  · iexists (A c); iapply (Entails.of_eq (acc_all c (A c))); iexact Hp0
  isplitl [Hs1]; · iexists f1; iexact Hs1
  isplitl [Hs2]; · iexists (stgV A c); iexact Hs2
  isplitl [Hp2 Hg]
  · iapply (out_done c)
    isplitl [Hp2] <;> iassumption
  isplitl [HO]; · iexact HO
  isplitl [Hb] <;> iassumption

/-! ## The body -/

theorem bind_step {α β : Type} {c : Dev nD} {P : sProp 𝕄} {p : Prog (TpuEff nD τ sig (Elt F) Λ₀ .tc) α} {k : α → Prog (TpuEff nD τ sig (Elt F) Λ₀ .tc) β} {Q : β → sProp 𝕄}
    (h : P ⊢ WPo c p (fun a => WPo c (k a) Q)) : P ⊢ WPo c (p >>= k) Q := by
  show P ⊢ wp frame (wpE (defs₀ (F := F)) 𝒱₀ (c : Thread nD τ) none) Set.univ (p >>= k) Q
  rw [wp_bind]; exact h
theorem retU_step {α : Type} {c : Dev nD} {Q : α → sProp 𝕄} {P : sProp 𝕄} {a : α} (h : P ⊢ |={Set.univ}=> Q a) : P ⊢ WPo c (.ret a) Q := by
  show P ⊢ wp frame (wpE (defs₀ (F := F)) 𝒱₀ (c : Thread nD τ) none) Set.univ (.ret a) Q
  rw [wp_ret]; exact h

theorem to25 {c : Dev nD} :
    iprop(Cx A K ∗ Keep I c ∗ ow c (owedS2 c 0) ∗ bigSep Finset.univ (Due 0 (pay A 0 c c) c) ∗ (∃ f, slotPts (F := F) c c f) ∗ Z2 (F := F) c) ⊢
      iprop(Cx A K ∗ ((Keep I c ∗ atPos ER (barCell c) 1 ∅ 0) ∗ ((∃ f, outPts (F := F) c fullShare (chunkS c) f) ∗ bigSep Finset.univ (S2tok (F := F) c) ∗ bigSep Finset.univ (WPre (F := F) 3 iprop(emp) c))
          ∗ (bigSep Finset.univ (fun q => att (F := F) 0 c q 0) ∗ bigSep Finset.univ (Due 0 (pay A 0 c c) c)) ∗ bigSep Finset.univ (fun q => att (F := F) 2 c q 0))
        ∗ ow c (owedS2 c 0) ∗ (∃ f, slotPts (F := F) c c f) ∗ bigSep Finset.univ (WPre (F := F) 1 iprop(emp) c)) := by
  unfold Z2
  iintro ⟨Hc, HK, HO, H0, Hsl, Hou, H2, HW1, HW3, Ha0, Ha2, Hb⟩
  isplitl [Hc]; · iexact Hc
  isplitl [HK Hb Hou H2 HW3 Ha0 H0 Ha2]
  · isplitl [HK Hb]
    · isplitl [HK] <;> iassumption
    isplitl [Hou H2 HW3]
    · isplitl [Hou]; · iexact Hou
      isplitl [H2] <;> iassumption
    isplitl [Ha0 H0]
    · isplitl [Ha0] <;> iassumption
    iexact Ha2
  isplitl [HO]; · iexact HO
  isplitl [Hsl] <;> iassumption

theorem to26 {B T W U V S R : sProp 𝕄} {P O : sProp 𝕄} {C : sProp 𝕄} :
    iprop(S ∗ (C ∗ (B ∗ (P ∗ T ∗ W) ∗ U ∗ V) ∗ O ∗ R)) ⊢ iprop(C ∗ ((B ∗ S ∗ R) ∗ U ∗ V) ∗ O ∗ P ∗ T ∗ W) := by
  iintro ⟨HS, HC, ⟨HB, ⟨HP, HT, HW⟩, HU, HV⟩, HO, HR⟩
  isplitl [HC]; · iexact HC
  isplitl [HB HS HR HU HV]
  · isplitl [HB HS HR]
    · isplitl [HB]; · iexact HB
      isplitl [HS] <;> iassumption
    isplitl [HU] <;> iassumption
  isplitl [HO]; · iexact HO
  isplitl [HP]; · iexact HP
  isplitl [HT] <;> iassumption

theorem to27 {B U V D S C : sProp 𝕄} : iprop(C ∗ ((B ∗ U ∗ V) ∗ D) ∗ S) ⊢ iprop(C ∗ (B ∗ U ∗ V ∗ D) ∗ S) := by
  iintro ⟨HC, ⟨⟨HB, HU, HV⟩, HD⟩, HS⟩
  isplitl [HC]; · iexact HC
  isplitr [HS]
  · isplitl [HB]; · iexact HB
    isplitl [HU]; · iexact HU
    isplitl [HV] <;> iassumption
  iexact HS

attribute [local irreducible] Idealize.SL.Sem.wp

set_option maxHeartbeats 1000000 in
/-- One device's body, from what the launch gives it to what it leaves. -/
theorem body (c : Dev nD) (hA : A c = accV I) : Start A K I c ⊢ WPo c (bufs (cc0_body (F := F))) (fun _ => End A I c) := by
  rw [cc0_body_eq_skeleton]; unfold bufs cc0_body_skel
  refine start_split c |>.trans ?_
  refine bind_step (part1 A K c ?_)
  refine (entered c).trans ?_
  refine bind_step (part2 c _ _ ?_)
  refine bind_step (part3 I c ?_)
  refine bind_step (part4 I c ?_)
  refine bind_step (part5 I c ?_)
  refine bind_step (part6 I c ?_)
  refine bind_step (part7 I c ?_)
  refine bind_step (part8 I c ?_)
  refine bind_step (part9 I c ?_)
  refine bind_step (part10 I c ?_)
  refine bind_step (part11 I c ?_)
  refine bind_step (part12 I c ?_)
  refine bind_step (part13 I c ?_)
  refine bind_step (part14 c hA ?_)
  refine bind_step (part15 I c ?_)
  refine bind_step (part16 I c ?_)
  refine bind_step (part17 I c fun z17 => ?_)
  refine bind_step (part18 I c ?_ z17)
  refine bind_step (part19 I c fun z19 => ?_)
  refine bind_step (part20 I c ?_ z19)
  refine bind_step (part21 I c ?_)
  refine bind_step (part22 I c ?_)
  refine bind_step (part23 I c ?_)
  refine bind_step (part24 c hA ?_)
  refine to25.trans ?_
  refine bind_step (part25 c ?_)
  refine to26.trans ?_
  refine bind_step (part26 c _ ?_)
  refine to27.trans ?_
  refine bind_step (part27 c ?_)
  show _ ⊢ WPo c _ _
  simp -zeta only [Prog.lift, Prog.bind_op, Prog.bind_ret, Prog.pure_eq_ret]
  refine join_step A K (n := 3) (by decide) c (guard 3 c) (fun _ => rfl) (fun _ => rfl) (by intro; rfl) (by intro; rfl) (fun _ => sem_s1 3 rfl _) (fun _ => sem_s2 3 rfl _) ?_
  refine join_step A K (n := 4) (by decide) c (guard 4 c) (fun _ => rfl) (fun _ => rfl) (by intro; rfl) (by intro; rfl) (fun _ => sem_s1 4 rfl _) (fun _ => sem_s2 4 rfl _) ?_
  refine join_step A K (n := 5) (by decide) c (guard 5 c) (fun _ => rfl) (fun _ => rfl) (by intro; rfl) (by intro; rfl) (fun _ => sem_s1 5 rfl _) (fun _ => sem_s2 5 rfl _) ?_
  refine join_step A K (n := 6) (by decide) c (guard 6 c) (fun _ => rfl) (fun _ => rfl) (by intro; rfl) (by intro; rfl) (fun _ => sem_s1 6 rfl _) (fun _ => sem_s2 6 rfl _) ?_
  refine join_step A K (n := 7) (by decide) c (guard 7 c) (fun _ => rfl) (fun _ => rfl) (by intro; rfl) (by intro; rfl) (fun _ => sem_s1 7 rfl _) (fun _ => sem_s2 7 rfl _) ?_
  exact retU_step (finish c)

end Cert.K

end
-- ==== Proof.Deal.lean ====
/-
The launch's ghost set-up: the cells' schedules and tokens, dealt so that each device holds the tokens of the duties it
pays, and the credit that stands for what the other devices owe it.
-/
module

public import proofs.«01_k».proof.Proof.Body

@[expose] public section

set_option maxRecDepth 65536

noncomputable section

namespace Cert.K

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit

variable {F : FTy → Type} [FloatOps F] [Named F]

local notation "𝕄" => MT nD τ sig Unit (Elt F) ℕ UU ℕ

variable (A : Dev nD → Vec F S2x512x768 .bf16)

/-! ## Cells and tokens -/

theorem csem_injective : Function.Injective csem := by
  rintro (⟨⟩ | ⟨k, q⟩) (⟨⟩ | ⟨k', q'⟩) h
  · rfl
  · exact absurd h (fun h => by cases h)
  · exact absurd h (fun h => by cases h)
  · have h' : dsem k q = dsem k' q' := SemLoc.dma.inj h
    obtain ⟨rfl, rfl⟩ := Prod.mk.inj (Option.some.inj ((kq_dsem k q).symm.trans ((congrArg kq h').trans (kq_dsem k' q'))))
    rfl
theorem kcell_injective : Function.Injective (kcell : Dev nD × Cell → GSem nD τ sig) := by
  rintro ⟨c, x⟩ ⟨c', x'⟩ h
  have h1 : c = c' := congrArg (fun g : GSem nD τ sig => g.1.1) h
  have h2 : x = x' := csem_injective (congrArg Prod.snd h)
  rw [h1, h2]
def ringCells : Finset (GSem nD τ sig) := Finset.univ.map ⟨kcell, kcell_injective⟩

/-- A device's own cells' tokens: of its barrier cell one for every device, of each other cell one. -/
abbrev Tok : Type := Dev nD ⊕ (Fin 4 × Dev nD)
abbrev tokOf (x : Dev nD × Tok) : GSem nD τ sig × ℕ × Dev nD := match x.2 with
  | .inl q => (barCell x.1, 0, q)
  | .inr kq => (dCell kq.1 x.1 kq.2, 0, 0)
theorem tokOf_injective : Function.Injective (tokOf : Dev nD × Tok → GSem nD τ sig × ℕ × Dev nD) := by
  rintro ⟨c, t⟩ ⟨c', t'⟩ h
  have h1 : c = c' := by
    have := congrArg (fun x : GSem nD τ sig × ℕ × Dev nD => x.1.1.1) h
    rcases t with q | kq <;> rcases t' with q' | kq' <;> exact this
  subst h1
  have hs := congrArg (fun x : GSem nD τ sig × ℕ × Dev nD => x.1.2) h
  have hd := congrArg (fun x : GSem nD τ sig × ℕ × Dev nD => x.2.2) h
  rcases t with q | ⟨k, q⟩ <;> rcases t' with q' | ⟨k', q'⟩
  · have : q = q' := hd
    rw [this]
  · exact absurd hs (fun h => by cases h)
  · exact absurd hs (fun h => by cases h)
  · have : (Sum.inr (k, q) : Cell) = Sum.inr (k', q') := csem_injective hs
    rw [Sum.inr.inj this]
def ringToks : Finset (GSem nD τ sig × ℕ × Dev nD) := Finset.univ.map ⟨tokOf, tokOf_injective⟩

def u₀ : UU :=
  (initOf (Pipeline.cells cfgs cellOf_inj) (Pipeline.launchToks cfgs cellOf_inj), initOf ringCells ringToks)

def toks (c : Dev nD) : sProp 𝕄 :=
  iprop((bigSep Finset.univ fun q : Dev nD => dutyTok ER (barCell c) 0 q) ∗ bigSep Finset.univ fun k : Fin 4 => bigSep Finset.univ fun q : Dev nD => dutyTok ER (dCell k c q) 0 0)

def G (c : Dev nD) : sProp 𝕄 :=
  iprop((bigSep Finset.univ fun x : Cell => roundState ER (rd A) (kcell (c, x)) 0)
    ∗ (bigSep Finset.univ fun x : Cell => iprop(atPos ER (kcell (c, x)) 0 ∅ 0 ∗ reached ER (kcell (c, x)) 0)) ∗ toks (F := F) c)

def G' (c : Dev nD) : sProp 𝕄 := iprop(∃ K, records A K ∗ Lin (F := F) c)

theorem fund_ring : BI.own (ER (initOf ringCells ringToks)) ⊢ (|==> bigSep Finset.univ (G A) : sProp 𝕄) := by
  have hX (Φ : GSem nD τ sig → sProp 𝕄) : bigSep ringCells Φ = bigSep Finset.univ fun c : Dev nD => bigSep Finset.univ fun x : Cell => Φ (kcell (c, x)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by
      unfold toks; rw [bigSep_univ_sum, bigSep_univ_prod]; rfl
  iintro HX
  imod (Rounds.fund ER (rd A) ringCells ringToks) $$ HX with ⟨Hst, Hr, Hat, Htok⟩
  imodintro
  ihave Hst' := (Entails.of_eq (hX fun g => roundState ER (rd A) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores -/

/-- The kernel's own semaphores are the four arrays' entries. -/
def osem (x : Fin 4 × Dev nD) : SemLoc sig := .dma (dsem x.1 x.2)
theorem ownSemFacts : Pipeline.OwnSemFacts cfg0.spec osem where
  isScoped := by decide
  inj := fun x y h => Sum.inr.inj (csem_injective (a₁ := .inr x) (a₂ := .inr y) h)
  disj := by decide

abbrev own0 (c : Dev nD) : sProp 𝕄 := Pipeline.ownSems0 (Ix := Unit) (Name := ℕ) (U := UU) (Lvl := ℕ) (Val := Elt F) (τ := τ) osem c

omit [FloatOps F] [Named F] in
theorem ownSems0_eq (c : Dev nD) :
    own0 (F := F) c = (bigSep Finset.univ fun k : Fin 4 => bigSep Finset.univ fun q : Dev nD => semVal (dCell k c q) 0 : sProp 𝕄) := by
  unfold own0 Pipeline.ownSems0; rw [bigSep_univ_prod]; rfl
omit [FloatOps F] [Named F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] [Named F] in
theorem bigSep_cell (Φ : Cell → sProp 𝕄) :
    bigSep Finset.univ Φ = iprop(Φ (.inl ()) ∗ bigSep Finset.univ fun k : Fin 4 => bigSep Finset.univ fun q : Dev nD => Φ (.inr (k, q))) := by
  rw [bigSep_univ_sum, bigSep_univ_prod]
  congr 1
  exact bigSep_univ_eq_bigSepL [()] (by decide) (by decide) _

omit [FloatOps F] [Named F] in
theorem sems0_eq (c : Dev nD) :
    iprop(own0 (F := F) c ∗ unscopedSems0 c) ⊢ (bigSep Finset.univ fun x : Cell => semVal (kcell (c, x)) 0 : sProp 𝕄) := by
  rw [ownSems0_eq, unscopedSems0_eq, bigSep_cell]
  exact sep_comm.1

theorem core_alloc (c : Dev nD) :
    iprop(own0 (F := F) c ∗ unscopedSems0 c ∗ G A c)
      ⊢ |={Set.univ}=> iprop((bigSep Finset.univ fun x : Cell => iprop(∃ κ : ℕ, cellInv ER (rd A) κ (kcell (c, x))))
          ∗ (bigSep Finset.univ fun x : Cell => iprop(atPos ER (kcell (c, x)) 0 ∅ 0 ∗ reached ER (kcell (c, x)) 0)) ∗ toks (F := F) c) := by
  unfold G
  iintro ⟨Hos, Hus, Hst, Hat, Htok⟩
  ihave Hv := (sems0_eq (F := F) c) $$ [Hos Hus]
  · isplitl [Hos] <;> iassumption
  imod (show iprop((bigSep Finset.univ fun x : Cell => semVal (kcell (c, x)) 0) ∗ bigSep Finset.univ fun x : Cell => roundState ER (rd A) (kcell (c, x)) 0)
      ⊢ (|={Set.univ}=> bigSep Finset.univ fun x : Cell => iprop(∃ κ : ℕ, cellInv ER (rd A) κ (kcell (c, x))) : sProp 𝕄) from by
        rw [← bigSep_sep']
        exact (bigSep_mono fun x _ => (Rounds.body_intro ER (rd A) (kcell (c, x))).trans inv_alloc).trans (bigSep_fupd _ _)) $$ [Hv Hst] with Hinv
  · isplitl [Hv] <;> iassumption
  imodintro
  isplitl [Hinv]; · iexact Hinv
  isplitl [Hat]; · iexact Hat
  iexact Htok

/-! ## The deal -/

omit [FloatOps F] [Named F] in
/-- Every token goes to the device that pays its duty: the barrier's and the landing cells' change hands, the sends' stay. -/
theorem toks_around : (bigSep Finset.univ fun c : Dev nD => (toks c : sProp 𝕄)) ⊢ bigSep Finset.univ fun c : Dev nD => bigSep Finset.univ (payTok (F := F) c) := by
  unfold toks payTok
  simp only [bigSep_fin4, bigSep_sep']
  rw [Pipeline.bigSep_univ_comm (fun c q : Dev nD => (dutyTok ER (barCell c) 0 q : sProp 𝕄)),
    Pipeline.bigSep_univ_comm (fun c q : Dev nD => (dutyTok ER (dCell 1 c q) 0 0 : sProp 𝕄)),
    Pipeline.bigSep_univ_comm (fun c q : Dev nD => (dutyTok ER (dCell 3 c q) 0 0 : sProp 𝕄))]
  iintro ⟨HB, H0, H1, H2, H3⟩
  isplitl [HB]; · iexact HB
  isplitl [H0 H1]
  · isplitl [H0] <;> iassumption
  isplitl [H2] <;> iassumption

theorem ghost_intro (K : Dev nD × Cell → ℕ) (c : Dev nD) : iprop(records A K ∗ Lin (F := F) c) ⊢ G' A c := by
  unfold G'
  iintro H
  iexists K; iexact H

theorem regroup :
    (bigSep Finset.univ fun c : Dev nD => iprop((bigSep Finset.univ fun x : Cell => iprop(∃ κ : ℕ, cellInv ER (rd A) κ (kcell (c, x))))
          ∗ (bigSep Finset.univ fun x : Cell => iprop(atPos ER (kcell (c, x)) 0 ∅ 0 ∗ reached ER (kcell (c, x)) 0)) ∗ toks (F := F) c) : sProp 𝕄)
      ⊢ bigSep Finset.univ (G' A) := by
  rw [bigSep_sep', bigSep_sep', ← bigSep_univ_prod (fun x : Dev nD × Cell => iprop(∃ κ : ℕ, cellInv ER (rd A) κ (kcell x))),
    bigSep_congr (s := Finset.univ) (fun (c : Dev nD) _ => bigSep_sep' Finset.univ (fun x : Cell => (atPos ER (kcell (c, x)) 0 ∅ 0 : sProp 𝕄)) (fun x => reached ER (kcell (c, x)) 0)),
    bigSep_sep', ← bigSep_univ_prod (fun x : Dev nD × Cell => (reached ER (kcell x) 0 : sProp 𝕄))]
  iintro ⟨HI, ⟨Hat, #HR⟩, Htok⟩
  ihave HK := (BI.bigSep_exists_pi Finset.univ (fun (x : Dev nD × Cell) (κ : ℕ) => (cellInv ER (rd A) κ (kcell x) : sProp 𝕄))) $$ HI
  icases HK with ⟨%K, #HI⟩
  ihave Htk := (toks_around (F := F)) $$ Htok
  iapply (with_persistent (R := records A K) fun c _ => ghost_intro A K c)
  isplitr
  · unfold records; isplitl; · iexact HI
    iexact HR
  · iapply ((Entails.of_eq (bigSep_sep' Finset.univ (fun c : Dev nD => bigSep Finset.univ fun x : Cell => (atPos ER (kcell (c, x)) 0 ∅ 0 : sProp 𝕄)) (fun c => bigSep Finset.univ (payTok (F := F) c))).symm).trans
      (bigSep_mono fun c _ => show _ ⊢ Lin (F := F) c from by
        unfold Lin att
        simp only [bigSep_cell, ite_self]
        exact sep_assoc.1))
    isplitl [Hat]; · iexact Hat
    iexact Htk

theorem glob : (bigSep Finset.univ fun c => iprop(own0 (F := F) c ∗ unscopedSems0 c ∗ G A c) : sProp 𝕄)
    ⊢ |={Set.univ}=> bigSep Finset.univ (G' A) :=
  ((bigSep_mono fun c _ => core_alloc A c).trans (bigSep_fupd _ _)).trans (BI.fupd_mono (regroup A))

/-! ## The launch credit -/

theorem bar_eq_iff {a b : Dev nD} : barCell a = barCell b ↔ a = b :=
  ⟨fun h => congrArg (fun g : GSem nD τ sig => g.1.1) h, fun h => h ▸ rfl⟩
theorem dCell_eq_iff {k k' : Fin 4} {c c' q q' : Dev nD} : dCell k c q = dCell k' c' q' ↔ k = k' ∧ c = c' ∧ q = q' := by
  constructor
  · intro h
    have h0 := kcell_injective (a₁ := (c, .inr (k, q))) (a₂ := (c', .inr (k', q'))) h
    have h1 : c = c' := congrArg Prod.fst h0
    have h2 : (k, q) = (k', q') := Sum.inr.inj (congrArg Prod.snd h0)
    exact ⟨congrArg Prod.fst h2, h1, congrArg Prod.snd h2⟩
  · rintro ⟨rfl, rfl, rfl⟩; rfl
theorem bar_ne_d {k : Fin 4} {a b q : Dev nD} : barCell a ≠ dCell k b q := fun h => by cases congrArg Prod.snd h

theorem dueBar_bar (d q c : Dev nD) : dueBar d q (barCell c) () = if q = c then (if c = d then 0 else 1) else 0 := by
  unfold dueBar
  by_cases h : q = d
  · subst h
    by_cases h' : q = c
    · subst h'; simp
    · simp [h']
  · rw [if_neg h, tallyAt_apply]
    by_cases h' : q = c
    · subst h'; simp [h]
    · rw [if_neg fun hh => h' (bar_eq_iff.mp hh.1).symm, if_neg h']
theorem dueBar_d (d q : Dev nD) (k : Fin 4) (c c' : Dev nD) : dueBar d q (dCell k c c') () = 0 := by
  unfold dueBar
  split
  · rfl
  · rw [tallyAt_ne_cell bar_ne_d.symm]; rfl
theorem dueD_bar (k : Fin 4) (d q c : Dev nD) : dueD k d q (barCell c) () = 0 := by
  unfold dueD
  split
  · rfl
  · rw [tallyAt_ne_cell bar_ne_d]; rfl
theorem dueD_d (k k' : Fin 4) (d q c c' : Dev nD) :
    dueD k d q (dCell k' c c') () = if q = c then (if c' = d ∧ c ≠ d ∧ k' = k then N else 0) else 0 := by
  unfold dueD
  by_cases h : q = d
  · subst h
    by_cases h' : q = c
    · subst h'; simp
    · simp [h']
  · rw [if_neg h, tallyAt_apply]
    by_cases h' : q = c
    · subst h'
      rw [if_pos rfl]
      refine if_congr ?_ rfl rfl
      rw [dCell_eq_iff]; exact ⟨fun hh => ⟨hh.1.2.2, h, hh.1.1⟩, fun hh => ⟨⟨hh.2.2, rfl, hh.1⟩, rfl⟩⟩
    · rw [if_neg fun hh => h' (dCell_eq_iff.mp hh.1).2.1.symm, if_neg h']

theorem sum_cell (S : Finset (Dev nD)) (f : Dev nD → TT) (g : GSem nD τ sig) : (∑ q ∈ S, f q) g () = ∑ q ∈ S, f q g () := by
  rw [Finset.sum_apply, Finsupp.finset_sum_apply]

theorem owed_bar (d c : Dev nD) : O₀ d (barCell c) () = if c = d then 0 else 1 := by
  unfold O₀ owedBar owedS1 owedS2
  rw [Pi.add_apply, Finsupp.add_apply, Pi.add_apply, Finsupp.add_apply, sum_cell, sum_cell, sum_cell, finFrom_zero]
  simp only [dueD_bar, dueBar_bar, Finset.sum_const_zero, Finset.sum_ite_eq', Finset.mem_univ, if_true, zero_add]
theorem owed_d (k : Fin 4) (hk : k = 1 ∨ k = 3) (d c c' : Dev nD) : O₀ d (dCell k c c') () = if c' = d then (if c' = c then 0 else N) else 0 := by
  unfold O₀ owedBar owedS1 owedS2
  rw [Pi.add_apply, Finsupp.add_apply, Pi.add_apply, Finsupp.add_apply, sum_cell, sum_cell, sum_cell, finFrom_zero]
  simp only [dueD_d, dueBar_d, Finset.sum_const_zero, Finset.sum_ite_eq', Finset.mem_univ, if_true, add_zero]
  by_cases h : c' = d
  · subst h
    by_cases h' : c' = c
    · subst h'; simp
    · rcases hk with rfl | rfl <;> simp [h', Ne.symm h']
  · simp [h]

theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide

theorem launch_d (k : Fin 4) (hk : k = 1 ∨ k = 3) (c q : Dev nD) (h : q ≠ c) :
    tallyOn (dCell k c q) (launchCredit (Pipeline.owing O₀) 0 (dCell k c q)) = (tallyAt (dCell k c q) () N : CellTallies nD τ sig Unit) := by
  unfold tallyAt; refine congrArg _ (Finsupp.ext fun u => ?_); cases u
  rw [Pipeline.launchCredit_owing, Finsupp.single_eq_same, Finset.sum_congr rfl fun d _ => owed_d k hk d c q, Finset.sum_ite_eq Finset.univ q fun _ => _,
    if_pos (Finset.mem_univ _), if_neg h]

omit [FloatOps F] [Named F] in
theorem due_launch (k : Fin 4) (hk : k = 1 ∨ k = 3) (c q : Dev nD) :
    (cred (tallyOn (dCell k c q) (launchCredit (Pipeline.owing O₀) 0 (dCell k c q))) : sProp 𝕄) ⊢ Due (F := F) k iprop(emp) c q := by
  unfold Due
  by_cases h : q = c
  · rw [if_pos h]; iintro -; iempintro
  · rw [if_neg h, launch_d k hk c q h]

omit [FloatOps F] [Named F] in
theorem creds (c : Dev nD) :
    (Pipeline.launchCred O₀ c : sProp 𝕄) ⊢ iprop(cred (tallyAt (barCell c) () 7) ∗ bigSep Finset.univ (Due (F := F) 1 iprop(emp) c) ∗ bigSep Finset.univ (Due (F := F) 3 iprop(emp) c)) := by
  unfold Pipeline.launchCred
  refine (bigSep_subset (Finset.subset_univ (Finset.univ.map ⟨csem, csem_injective⟩))).trans ?_
  rw [BI.bigSep_map, bigSep_cell, bigSep_fin4]
  have h1 : (bigSep Finset.univ fun q : Dev nD => (cred (tallyOn (dCell 1 c q) (launchCredit (Pipeline.owing O₀) 0 (dCell 1 c q))) : sProp 𝕄))
      ⊢ bigSep Finset.univ (Due (F := F) 1 iprop(emp) c) := bigSep_mono fun q _ => due_launch 1 (.inl rfl) c q
  have h3 : (bigSep Finset.univ fun q : Dev nD => (cred (tallyOn (dCell 3 c q) (launchCredit (Pipeline.owing O₀) 0 (dCell 3 c q))) : sProp 𝕄))
      ⊢ bigSep Finset.univ (Due (F := F) 3 iprop(emp) c) := bigSep_mono fun q _ => due_launch 3 (.inr rfl) c q
  show (iprop(cred (tallyOn (barCell c) (launchCredit (Pipeline.owing O₀) 0 (barCell c)))
      ∗ (bigSep Finset.univ fun q : Dev nD => cred (tallyOn (dCell 0 c q) (launchCredit (Pipeline.owing O₀) 0 (dCell 0 c q))))
      ∗ (bigSep Finset.univ fun q : Dev nD => cred (tallyOn (dCell 1 c q) (launchCredit (Pipeline.owing O₀) 0 (dCell 1 c q))))
      ∗ (bigSep Finset.univ fun q : Dev nD => cred (tallyOn (dCell 2 c q) (launchCredit (Pipeline.owing O₀) 0 (dCell 2 c q))))
      ∗ bigSep Finset.univ fun q : Dev nD => cred (tallyOn (dCell 3 c q) (launchCredit (Pipeline.owing O₀) 0 (dCell 3 c q)))) : sProp 𝕄) ⊢ _
  iintro ⟨HB, -, H1, -, H3⟩
  isplitl [HB]; · iapply (Entails.of_eq (congrArg (fun t => (cred t : sProp 𝕄)) (launch_bar c))); iexact HB
  isplitl [H1]; · iapply h1; iexact H1
  iapply h3; iexact H3

end Cert.K

end
-- ==== Proof.Run.lean ====
/-
The run of @main: every device's kernel from the launch to its end, and what the memory holds then.
-/
module

public import proofs.«01_k».proof.Proof.Deal
public import Idealize.ShloMosaic.Lib.Pipeline.CollectiveSegs

@[expose] public section

set_option maxRecDepth 65536

noncomputable section

namespace Cert.K

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.SparseCore.ProtocolKit

variable {F : FTy → Type} [FloatOps F] [Named F]

local notation "𝕄" => MT nD τ sig Unit (Elt F) ℕ UU ℕ

variable (m : (ℓ : Loc nD τ sig) → Buf (Elt F) ℓ) (ρ : Dev nD → PrngReg)

def s₀ : MemSt nD τ sig (Elt F) := ⟨m, fun _ => 0, ρ⟩

/-- What each device's kernel is staged. -/
def ins (c : Dev nD) : Ins F where
  x := (win0_0.blk (0 : Fin 1)).view.read (Elt F) ((s₀ m ρ).mem ((c : Thread nD τ).loc main_arg0))
  wq := (win0_1.blk (0 : Fin 1)).view.read (Elt F) ((s₀ m ρ).mem ((c : Thread nD τ).loc main_arg1))
  k := (win0_2.blk (0 : Fin 1)).view.read (Elt F) ((s₀ m ρ).mem ((c : Thread nD τ).loc main_arg2))
  v := (win0_3.blk (0 : Fin 1)).view.read (Elt F) ((s₀ m ρ).mem ((c : Thread nD τ).loc main_arg3))
  wo := (win0_4.blk (0 : Fin 1)).view.read (Elt F) ((s₀ m ρ).mem ((c : Thread nD τ).loc main_arg4))

/-- Every device's partial product. -/
def accs (c : Dev nD) : Vec F S2x512x768 .bf16 := accV (ins m ρ c)

/-! ## The pipeline's data -/

def start (c : Dev nD) : sProp 𝕄 :=
  iprop(G' (accs m ρ) c ∗ (cred (tallyAt (barCell c) () 7) ∗ bigSep Finset.univ (Due (F := F) 1 iprop(emp) c) ∗ bigSep Finset.univ (Due (F := F) 3 iprop(emp) c)) ∗ levAts L lv)

def scr (c : Dev nD) : sProp 𝕄 :=
  iprop((∃ f : Vec F S2x512x768 .bf16, ((c : Thread nD τ).loc cc0_scratch0) ↦{fullShare} f) ∗ (∃ f : Vec F S2x512x512 .bf16, ((c : Thread nD τ).loc cc0_scratch1) ↦{fullShare} f)
    ∗ (∃ f : Vec F S8x2x64x768 .bf16, ((c : Thread nD τ).loc cc0_scratch2) ↦{fullShare} f))

def Φ₀ (c : Dev nD) : sProp 𝕄 := iprop(start m ρ c ∗ scr (F := F) c)
def Φ₁ (c : Dev nD) : sProp 𝕄 :=
  iprop(scr (F := F) c ∗ semVal (barCell c) 0 ∗ bigSep Finset.univ fun k : Fin 4 => bigSep Finset.univ fun q : Dev nD => semVal (dCell k c q) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (ins m ρ c).x
    | ⟨1, _⟩ => (ins m ρ c).wq
    | ⟨2, _⟩ => (ins m ρ c).k
    | ⟨3, _⟩ => (ins m ρ c).v
    | ⟨4, _⟩ => (ins m ρ c).wo
    | ⟨5, _⟩ => outV (accs m ρ)
  Φ t := match t with
    | ⟨0, _⟩ => Φ₀ m ρ c
    | ⟨_ + 1, _⟩ => Φ₁ (F := F) c
  q _ := fullShare
  owed t := match t with
    | ⟨0, _⟩ => O₀ c
    | ⟨_ + 1, _⟩ => 0

omit [FloatOps F] [Named F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem fetch_in (w : Fin cfg0.W) (h : w.val < 5) (t : Fin cfg0.N) : (cfg0.win w).fetch t = true := by
  rw [fin_N0 t]; revert w; decide

theorem before_in (c : Dev nD) (w : Fin cfg0.W) (h : w.val < 5) (d) :
    (dats m ρ 0 c).before w t0_0 d = (dats m ρ 0 c).after w t0_0 := by
  unfold Dat.before; rw [if_pos (fetch_in w h _)]
  match w, h with
  | ⟨0, _⟩, _ => rfl
  | ⟨1, _⟩, _ => rfl
  | ⟨2, _⟩, _ => rfl
  | ⟨3, _⟩, _ => rfl
  | ⟨4, _⟩, _ => rfl

def bodyPre (c : Dev nD) : sProp 𝕄 :=
  iprop(Φ₀ m ρ c ∗ (dats m ρ 0 c).owesAt () t0_0.castSucc
    ∗ (∃ d, stg c cc0_stg0_0 ((dats m ρ 0 c).before (0 : Fin 6) t0_0 d))
    ∗ (∃ d, stg c cc0_stg1_0 ((dats m ρ 0 c).before (1 : Fin 6) t0_0 d))
    ∗ (∃ d, stg c cc0_stg2_0 ((dats m ρ 0 c).before (2 : Fin 6) t0_0 d))
    ∗ (∃ d, stg c cc0_stg3_0 ((dats m ρ 0 c).before (3 : Fin 6) t0_0 d))
    ∗ (∃ d, stg c cc0_stg4_0 ((dats m ρ 0 c).before (4 : Fin 6) t0_0 d))
    ∗ (∃ d, stg c cc0_stg5_0 ((dats m ρ 0 c).before (5 : Fin 6) t0_0 d)))

def bodyPost (c : Dev nD) : sProp 𝕄 :=
  iprop(Φ₁ (F := F) c ∗ (dats m ρ 0 c).owesAt () t0_0.succ
    ∗ stg c cc0_stg0_0 (ins m ρ c).x ∗ stg c cc0_stg1_0 (ins m ρ c).wq ∗ stg c cc0_stg2_0 (ins m ρ c).k
    ∗ stg c cc0_stg3_0 (ins m ρ c).v ∗ stg c cc0_stg4_0 (ins m ρ c).wo ∗ stg c cc0_stg5_0 (outV (accs m ρ)))

theorem pre_start (c : Dev nD) : bodyPre m ρ c ⊢ iprop(∃ K, Start (accs m ρ) K (ins m ρ c) c) := by
  unfold bodyPre Φ₀ start scr G' Start InPts Cx
  iintro ⟨⟨⟨⟨%K, #HR, HL⟩, ⟨Hb, H1, H3⟩, #Hlev⟩, Hs0, Hs1, Hs2⟩, Ho, ⟨%d0, %g0, %h0, X0⟩, ⟨%d1, %g1, %h1, X1⟩, ⟨%d2, %g2, %h2, X2⟩, ⟨%d3, %g3, %h3, X3⟩, ⟨%d4, %g4, %h4, X4⟩, ⟨%d5, %g5, -, X5⟩⟩
  obtain rfl : g0 = (ins m ρ c).x := h0.trans (before_in m ρ c 0 (by decide) d0)
  obtain rfl : g1 = (ins m ρ c).wq := h1.trans (before_in m ρ c 1 (by decide) d1)
  obtain rfl : g2 = (ins m ρ c).k := h2.trans (before_in m ρ c 2 (by decide) d2)
  obtain rfl : g3 = (ins m ρ c).v := h3.trans (before_in m ρ c 3 (by decide) d3)
  obtain rfl : g4 = (ins m ρ c).wo := h4.trans (before_in m ρ c 4 (by decide) d4)
  unfold Dat.owesAt Pipeline.owesWithin
  icases Ho with ⟨%W, -, HO⟩
  iexists K
  isplitr
  · isplitr; · iexact HR
    iexact Hlev
  isplitl [X0 X1 X2 X3 X4]
  · isplitl [X0]; · iexact X0
    isplitl [X1]; · iexact X1
    isplitl [X2]; · iexact X2
    isplitl [X3] <;> iassumption
  isplitl [Hs0]; · iexact Hs0
  isplitl [Hs1]; · iexact Hs1
  isplitl [Hs2]; · iexact Hs2
  isplitl [X5]; · iexists g5; iexact X5
  isplitl [HO]; · unfold ow; iexists W; iexact HO
  isplitl [Hb]; · iexact Hb
  isplitl [H1]; · iexact H1
  isplitl [H3]; · iexact H3
  iexact HL

theorem end_post (c : Dev nD) : End (accs m ρ) (ins m ρ c) c ⊢ bodyPost m ρ c := by
  unfold bodyPost Φ₁ scr End InPts ow
  iintro ⟨⟨X0, X1, X2, X3, X4⟩, Hs0, Hs1, Hs2, X5, ⟨%W, HO⟩, Hb, Hz⟩
  isplitl [Hs0 Hs1 Hs2 Hb Hz]
  · isplitl [Hs0 Hs1 Hs2]
    · isplitl [Hs0]; · iexact Hs0
      isplitl [Hs1] <;> iassumption
    isplitl [Hb] <;> iassumption
  isplitl [HO]
  · unfold Dat.owesAt Pipeline.owesWithin
    iexists W
    isplitr; · ipureintro; exact fun _ _ => Or.inl trivial
    iexact HO
  isplitl [X0]
  · iexists _; isplitr; · (ipureintro; rfl)
    iexact X0
  isplitl [X1]
  · iexists _; isplitr; · (ipureintro; rfl)
    iexact X1
  isplitl [X2]
  · iexists _; isplitr; · (ipureintro; rfl)
    iexact X2
  isplitl [X3]
  · iexists _; isplitr; · (ipureintro; rfl)
    iexact X3
  isplitl [X4]
  · iexists _; isplitr; · (ipureintro; rfl)
    iexact X4
  iexists _; isplitr; · (ipureintro; rfl)
  iexact X5

theorem sound_body (c : Dev nD) : bodyPre m ρ c ⊢ WPo c (bufs (cc0_body (F := F))) (fun _ => bodyPost m ρ c) := by
  refine (pre_start m ρ c).trans (exists_elim fun K => ?_)
  exact BIBase.Entails.trans (body (A := accs m ρ) (K := K) (I := ins m ρ c) c rfl) (wp_mono _ _ _ (fun _ => end_post m ρ c))

/-- The library's body obligation on core `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  exact sound_body m ρ c

/-! ## The launch theorem's side conditions -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (accs m ρ) c)
      ⊢ |={Set.univ}=> iprop(start m ρ c ∗ emp) := by
  iintro ⟨-, Hlev, Hcr, -, HG⟩
  ihave Hc := (creds (F := F) c) $$ Hcr
  imodintro
  unfold start
  isplitl
  · isplitl [HG]; · iexact HG
    isplitl [Hc] <;> iassumption
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scr
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, show Pipeline.ownSems0 osem c = _ from ownSems0_eq (F := F) c, unscopedSems0_eq]
  unfold Φ₁ scr
  iintro ⟨Hr, HzB, Hz⟩
  isplitl [HzB]; · iexact HzB
  isplitl [Hz]; · iexact Hz
  iexact Hr

theorem waits (c : Dev nD) : (levAts L lv : sProp 𝕄) ⊢ Pipeline.cellsWaits cfgs (dats m ρ) () 0 c :=
  Pipeline.cellsWaits_intro cfgs (dats m ρ) () 0 c fun w s t =>
    mayWait c _ 0 (by fin_cases w <;> fin_cases s <;> decide) _ (by
      rcases t with ⟨_ | _, ht⟩
      · exact above_O₀ c
      · exact above_zero 0)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- From any memory with zero counters every weakly fair execution of @main on the eight devices terminates; then every
    window's array holds what the pipeline's data say, and every semaphore counter is zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (accs m ρ)) (G' := G' (accs m ρ)) (u₀ := u₀)
    (hu₀ := by
      unfold u₀
      iintro Hu
      ihave H := (ownU_pair _ _) $$ Hu
      icases H with ⟨HP, HX⟩
      imod (fund_ring (accs m ρ)) $$ HX with HG
      imodintro
      isplitl [HP] <;> iassumption)
    (hglob := glob (accs m ρ))
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An argument's array is unchanged. -/
theorem finalA_in (c : Dev nD) (w : Fin cfg0.W) (h : w.val < 5) : finalA m ρ c w = (s₀ m ρ).mem ((cfg0.win w).arr.view.loc (c : Thread nD τ)) :=
  (dats (F := F) m ρ 0 c).arrAt_in w (by revert w; decide) _

end Cert.K

end
-- ==== Proof.Frames.lean ====
/-
The frames: each program leaves its arguments unchanged and every semaphore at zero.
-/
module

public import proofs.«01_k».proof.Proof.Run
public import proofs.«01_k».proof.Defs
public import proofs.«01_k».proof.Proof.Gen.Kernel
public import proofs.«01_k».proof.Proof.Gen.ReferenceIdeal
public import proofs.«01_k».proof.Proof.Gen.ReferenceIdeal.Run

@[expose] public section

set_option maxRecDepth 65536

noncomputable section

namespace Cert.K

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.SparseCore.ProtocolKit

/-- As machine floats every named constant is the constant it stands for. -/
instance : Named Bits where
  named _ _ bits := Scalar.ofBits bits

/-- The kernel's run, read at its arguments. -/
theorem kept {F : FTy → Type} [FloatOps F] [Named F] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨(h.1 c 0).trans (finalA_in m ρ c 0 (by decide)), (h.1 c 1).trans (finalA_in m ρ c 1 (by decide)),
    (h.1 c 2).trans (finalA_in m ρ c 2 (by decide)), (h.1 c 3).trans (finalA_in m ρ c 3 (by decide)), (h.1 c 4).trans (finalA_in m ρ c 4 (by decide))⟩, h.2⟩) (run_main m ρ)

/-- The printed kernel's table of bodies is the idealized kernel's at machine floats. -/
theorem bodies_bits : Cert.Kernel.defs₀ (F := Bits) = Cert.KernelIdeal.defs₀ (F := Bits) := by
  funext p l a
  obtain ⟨l, hl⟩ := l
  obtain rfl : l = 0 := Nat.lt_one_iff.1 hl
  obtain ⟨t, s⟩ := a
  cases p <;> rfl

theorem defs_bits : Cert.Kernel.defs (F := Bits) = Cert.KernelIdeal.defs (F := Bits) := by
  unfold Cert.Kernel.defs Cert.KernelIdeal.defs
  rw [bodies_bits]
  rfl

/-- The kernel as printed is the idealized kernel at machine floats, its named constant read as the constant it stands for. -/
theorem kept_bits (m : (ℓ : Loc Cert.Kernel.nD Cert.Kernel.τ Cert.Kernel.sig) → Buf (Elt Bits) ℓ) (ρ : Dev Cert.Kernel.nD → PrngReg) :
    θ_run Cert.Kernel.defs (onTc (τ := Cert.Kernel.τ) (Cert.Kernel.main (F := Bits))) ⟨m, fun _ => 0, ρ⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0) :=
  defs_bits ▸ kept (F := Bits) m ρ

theorem frame_kernel : Cert.quiescent_Kernel := fun m ρ _ => kept_bits m ρ

theorem frame_kernelIdeal : Cert.quiescent_KernelIdeal := fun m ρ _ => kept (F := Ideal) m ρ

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The number that stands for `-∞` in the kernel's mask is named so. -/
theorem preserved : Cert.preserves_Kernel_KernelIdeal :=
  IdealRules.named_const.statement Cert.KernelIdeal.κ "mask" .f32 0xC1F00000#32 ⊥ rfl

end Cert.K

end
-- ==== Proof.Output.lean ====
/-
What the kernel's run reads and leaves: the inputs staged on a device are its argument arrays, and the result array ends
with the value the run computes.
-/
module

public import proofs.«01_k».proof.Proof.Run
public import Idealize.ShloMosaic.Lib.Pipeline.ValueKit

@[expose] public section

set_option maxRecDepth 65536

noncomputable section

namespace Cert.K

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.SparseCore.ProtocolKit

variable {F : FTy → Type} [FloatOps F] [Named F] (m : (ℓ : Loc nD τ sig) → Buf (Elt F) ℓ) (ρ : Dev nD → PrngReg)

/-- A window on a whole array reads it whole. -/
theorem ins_eq (c : Dev nD) : ins m ρ c = ⟨m ((c.tc : Thread nD τ).loc main_arg0), m ((c.tc : Thread nD τ).loc main_arg1),
    m ((c.tc : Thread nD τ).loc main_arg2), m ((c.tc : Thread nD τ).loc main_arg3), m ((c.tc : Thread nD τ).loc main_arg4)⟩ := by
  unfold ins
  congr 1 <;> funext i
  · exact congrArg (m ((c.tc : Thread nD τ).loc main_arg0)) (funext fun a => Fin.ext (by fin_cases a <;> simp <;> rfl))
  · exact congrArg (m ((c.tc : Thread nD τ).loc main_arg1)) (funext fun a => Fin.ext (by fin_cases a <;> simp <;> rfl))
  · exact congrArg (m ((c.tc : Thread nD τ).loc main_arg2)) (funext fun a => Fin.ext (by fin_cases a <;> simp <;> rfl))
  · exact congrArg (m ((c.tc : Thread nD τ).loc main_arg3)) (funext fun a => Fin.ext (by fin_cases a <;> simp <;> rfl))
  · exact congrArg (m ((c.tc : Thread nD τ).loc main_arg4)) (funext fun a => Fin.ext (by fin_cases a <;> simp <;> rfl))

/-- What the run leaves in the result's array. -/
theorem finalA_out (c : Dev nD) : finalA m ρ c 5 = outV (accs m ρ) := by
  refine (dats m ρ 0 c).arrAt_eq_of_after_last 5 t0_0 (by decide) _ fun j => ?_
  blk_simp
  rfl

end Cert.K

end
-- ==== Proof.KerVal.lean ====
/-
What the kernel's pieces compute over the extended reals, element by element.
-/
module

public import proofs.«01_k».proof.Proof.Spec
public import Idealize.ShloMosaic.Lib.Pointwise

@[expose] public section

set_option maxRecDepth 16384

noncomputable section

namespace Cert.K

open Cert.KernelIdeal Cert.KernelIdeal.Gen
open Idealize.ShloMosaic

/-! ## The kernel's payloads over the extended reals -/

/-- The mask's class of a row: its block of 64, modulo four. -/
theorem row_class (v : Fin 512) (c : Fin 512) :
    k0_pay1 (iota .tc S512x512 32 [0] iota_S512x512_d0_w32) (ix2 v c) = BitVec.ofNat 32 (v.val / 64 % 4) := by
  unfold k0_pay1
  pointwise
  revert v
  decide +kernel

/-- A choice on two classes' words being equal is one on the classes. -/
theorem select_class {α : Type} (a b : Fin 4) (x y : α) :
    Scalar.select (IntOp.cmpi .eq (BitVec.ofNat 32 a.val) (BitVec.ofNat 32 b.val)) x y = if a.val = b.val then x else y := by
  fin_cases a <;> fin_cases b <;> rfl

/-- The additive mask: zero where the two classes agree, `-∞` elsewhere. -/
theorem bias_at (r c : Fin 512) : biasV (F := Ideal) (ix2 r c) = if r.val / 64 % 4 = c.val / 64 % 4 then (0 : EReal) else ⊥ := by
  have hr := row_class r c
  unfold biasV
  generalize k0_pay1 (iota .tc S512x512 32 [0] iota_S512x512_d0_w32) = R at hr
  unfold k0_pay4 k0_pay3 k0_pay2
  pointwise
  rw [hr]
  refine (congrArg (fun w => Scalar.select (IntOp.cmpi .eq (BitVec.ofNat 32 (r.val / 64 % 4)) w) 0 (Named.named κ "mask" 3253731328#32))
    (?_ : _ = BitVec.ofNat 32 (c.val / 64 % 4))).trans ?_
  · clear hr
    revert c
    decide +kernel
  · rw [show (Named.named κ "mask" 3253731328#32 : Ideal .f32) = ⊥ from rfl]
    have h1 : r.val / 64 % 4 < 4 := Nat.mod_lt _ (by decide)
    have h2 : c.val / 64 % 4 < 4 := Nat.mod_lt _ (by decide)
    generalize r.val / 64 % 4 = a at h1 ⊢
    generalize c.val / 64 % 4 = b at h2 ⊢
    exact select_class ⟨a, h1⟩ ⟨b, h2⟩ 0 ⊥

/-- The word of the scale is one eighth. -/
theorem eighth : Ideal.ofBits .bf16 0x3E00#16 = ((1 / 8 : ℝ) : EReal) := by
  simp [Ideal.ofBits, Ideal.ieee, -EReal.coe_mul]; norm_num

/-- The scaled queries of a batch row: the product with the scaled weights. -/
theorem q_at (I : Ins Ideal) (b : Fin 2) (r j : Fin 512) :
    I.q b (ix2 r j) = ∑ e : Fin 768, (I.x (ix3 b r e) : EReal) * ((I.wq (ix2 e j) : EReal) * ((1 / 8 : ℝ) : EReal)) := by
  unfold Ins.q Ins.wqs k0_pay7 k0_pay5 xBlk
  pointwise
  rw [eighth]
  rfl

/-- One head for one query row: the weighted sum of the value rows over the sum of the weights. -/
theorem head_at (bias : FVec Ideal S512x512 .f32) (q : FVec Ideal S512x512 .bf16) (k v : Vec Ideal S1x512x1x64 .bf16) (half : Fin 2) (h : Fin 8)
    (r : Fin 256) (d : Fin 64) (R : Fin 512) (hR : R.val = 256 * half.val + r.val) (J : Fin 64 → Fin 512) (hJ : ∀ e, (J e).val = 64 * h.val + e.val) :
    headOut bias q k v half h (ix3 0 r d) = Ideal.div
      (∑ x : Fin 512, Ideal.exp (∑ e : Fin 64, (q (ix2 R (J e)) : EReal) * k (ix4 0 x 0 e) + bias (ix2 R x)) * v (ix4 0 x 0 d))
      (∑ x : Fin 512, Ideal.exp (∑ e : Fin 64, (q (ix2 R (J e)) : EReal) * k (ix4 0 x 0 e) + bias (ix2 R x))) := by
  have bR : 256 * half.val + r.val < 512 := hR ▸ R.isLt
  have bJ : ∀ e : Fin 64, 64 * h.val + e.val < 512 := fun e => hJ e ▸ (J e).isLt
  obtain rfl : R = ⟨256 * half.val + r.val, bR⟩ := Fin.ext hR
  obtain rfl : J = fun e => ⟨64 * h.val + e.val, bJ e⟩ := funext fun e => Fin.ext (hJ e)
  unfold headOut
  pointwise

/-- The output projection of 256 rows. -/
theorem proj_at (I : Ins Ideal) (b half : Fin 2) (r : Fin 256) (o : Fin 768) :
    I.proj b half (ix3 0 r o) = ∑ j : Fin 512, (rowsOf (ctxV I) b half (ix3 0 r j) : EReal) * (I.wo (ix2 j o) : EReal) := by
  unfold Ins.proj Ins.wos k0_pay22 k0_pay6
  pointwise

/-- The reduction adds the eight devices' chunks. -/
theorem red_at (A : Vec Ideal S8x2x64x768 .bf16) (b : Fin 2) (r : Fin 64) (o : Fin 768) :
    k0_pay71 A (ix3 b r o) = ∑ q : Fin 8, (A (ix4 q b r o) : EReal) := by
  unfold k0_pay71
  pointwise

end Cert.K

end
-- ==== Proof.Softmax.lean ====
/-
The attention weights over the extended reals.

One program takes the row maximum off before the exponential, divides each weight by the sum of the row, and then
sums the weighted values; the other takes exponentials as they are, sums, and divides once. `row_eq` says that the two
agree when every score is a real or `-∞` and some score is real. `score_eq` moves the factor 1/8 from the weights of the
projection to the scores, where all the numbers are real.
-/
module

public import Idealize.ShloMosaic.Lib.Pointwise

@[expose] public section

noncomputable section

namespace Cert.Softmax

open Idealize.ShloMosaic

/-- A family without infinities is one of reals. -/
theorem real_family {ι : Type} (f : ι → EReal) (h : ∀ i, f i ≠ ⊤ ∧ f i ≠ ⊥) : ∃ g : ι → ℝ, ∀ i, f i = (g i : EReal) :=
  ⟨fun i => (f i).toReal, fun i => (EReal.coe_toReal (h i).1 (h i).2).symm⟩

/-- A sum of reals, taken as extended reals. -/
theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A nonnegative real goes through a sum of any extended reals. -/
theorem sum_mul {ι : Type} (s : Finset ι) (f : ι → EReal) (c : ℝ) (hc : 0 ≤ c) : (∑ i ∈ s, f i) * (c : EReal) = ∑ i ∈ s, f i * (c : EReal) := by
  classical
  induction s using Finset.induction_on with
  | empty => simp
  | insert a s ha ih =>
    rw [Finset.sum_insert ha, Finset.sum_insert ha, ← ih]
    exact EReal.right_distrib_of_nonneg_of_ne_top (by exact_mod_cast hc) (EReal.coe_ne_top c) _ _

/-- The scores: real, and the factor may be taken at either end. -/
theorem score_eq {m n : ℕ} (x : Fin m → EReal) (w : Fin m → Fin n → EReal) (k : Fin n → EReal)
    (hx : ∀ e, x e ≠ ⊤ ∧ x e ≠ ⊥) (hw : ∀ e d, w e d ≠ ⊤ ∧ w e d ≠ ⊥) (hk : ∀ d, k d ≠ ⊤ ∧ k d ≠ ⊥) (c : ℝ) :
    ∃ a : ℝ, (∑ d, (∑ e, x e * (w e d * (c : EReal))) * k d = (a : EReal)) ∧ (∑ d, (∑ e, x e * w e d) * k d) * (c : EReal) = (a : EReal) := by
  obtain ⟨x', hx'⟩ := real_family x hx
  obtain ⟨k', hk'⟩ := real_family k hk
  obtain ⟨w', hw'⟩ := real_family (fun p : Fin m × Fin n => w p.1 p.2) fun p => hw p.1 p.2
  have hw'' : ∀ e d, w e d = (w' (e, d) : EReal) := fun e d => hw' (e, d)
  refine ⟨(∑ d, (∑ e, x' e * w' (e, d)) * k' d) * c, ?_, ?_⟩
  · simp only [hx', hw'', hk', ← EReal.coe_mul, coe_sum]
    refine congrArg _ ?_
    rw [Finset.sum_mul]
    refine Finset.sum_congr rfl fun d _ => ?_
    rw [mul_right_comm, Finset.sum_mul (s := Finset.univ) (f := fun e => x' e * w' (e, d))]
    exact congrArg (· * k' d) (Finset.sum_congr rfl fun e _ => by ring)
  · simp only [hx', hw'', hk', ← EReal.coe_mul, coe_sum]

/-- One row of attention, weighted before or after the division. -/
theorem row_eq {n : ℕ} (s : Fin n → EReal) (M : EReal) (v : Fin n → EReal) (hs : ∀ k, s k ≠ ⊤) (k₀ : Fin n) (h₀ : s k₀ ≠ ⊥) (hM : M ≠ ⊤) (hM' : M ≠ ⊥) :
    ∑ k, v k * Ideal.div (Ideal.exp (s k - M)) (∑ x, Ideal.exp (s x - M)) = Ideal.div (∑ k, Ideal.exp (s k) * v k) (∑ x, Ideal.exp (s x)) := by
  lift M to ℝ using ⟨hM, hM'⟩
  have hp : ∀ k, ∃ p : ℝ, 0 ≤ p ∧ (s k ≠ ⊥ → 0 < p) ∧ Ideal.exp (s k) = (p : EReal) ∧ Ideal.exp (s k - M) = ((p * Real.exp (-M) : ℝ) : EReal) := by
    intro k
    rcases eq_or_ne (s k) ⊥ with e | e
    · exact ⟨0, le_rfl, fun h => absurd e h, by rw [e]; rfl, by rw [e, EReal.bot_sub, zero_mul]; rfl⟩
    · obtain ⟨a, ha⟩ : ∃ a : ℝ, s k = (a : EReal) := ⟨_, (EReal.coe_toReal (hs k) e).symm⟩
      refine ⟨Real.exp a, (Real.exp_pos a).le, fun _ => Real.exp_pos a, by rw [ha]; rfl, ?_⟩
      rw [ha, ← EReal.coe_sub, ← Real.exp_add, ← sub_eq_add_neg]
      rfl
  choose p p0 pp e1 e2 using hp
  have hS : 0 < ∑ k, p k := Finset.sum_pos' (fun k _ => p0 k) ⟨k₀, Finset.mem_univ _, pp k₀ h₀⟩
  have hc : 0 < Real.exp (-M) := Real.exp_pos _
  simp only [e1, e2, coe_sum]
  rw [← Finset.sum_mul, Ideal.div_coe hS.ne', sum_mul _ _ _ (one_div_pos.2 hS).le]
  refine Finset.sum_congr rfl fun k _ => ?_
  rw [Ideal.div_coe (mul_pos hS hc).ne', ← EReal.coe_mul, mul_comm (p k : EReal) (v k), mul_assoc (v k) (p k : EReal), ← EReal.coe_mul]
  refine congrArg (v k * ·) (congrArg _ ?_)
  field_simp

end Cert.Softmax

end
-- ==== Proof.KerOut.lean ====
/-
The kernel's result, element by element, over the extended reals: the sum over the devices and over a device's columns
of the context times the output projection, where the context is a row of attention with exponentials of the scores
as they are.
-/
module

public import proofs.«01_k».proof.Proof.KerVal
public import proofs.«01_k».proof.Proof.Softmax

@[expose] public section

set_option maxRecDepth 16384

noncomputable section

namespace Cert.K

open Cert.KernelIdeal Cert.KernelIdeal.Gen
open Idealize.ShloMosaic

/-- A device's score of a query row and a key row, masked. -/
def score (I : Ins Ideal) (b : Fin 2) (h : Fin 8) (r x : Fin 512) : EReal :=
  ∑ e : Fin 64, (∑ n : Fin 768, (I.x (ix3 b r n) : EReal) * ((I.wq (ix2 n ⟨64 * h.val + e.val, by omega⟩) : EReal) * ((1 / 8 : ℝ) : EReal))) * (I.k (ix4 b x h e) : EReal)
    + (if r.val / 64 % 4 = x.val / 64 % 4 then 0 else ⊥)

/-- A row of attention. -/
def attn (I : Ins Ideal) (b : Fin 2) (h : Fin 8) (r : Fin 512) (d : Fin 64) : EReal :=
  Ideal.div (∑ x : Fin 512, Ideal.exp (score I b h r x) * (I.v (ix4 b x h d) : EReal)) (∑ x : Fin 512, Ideal.exp (score I b h r x))

/-- The context array holds a row of attention for each head. -/
theorem ctx_at (I : Ins Ideal) (b : Fin 2) (r j : Fin 512) :
    ctxV I (ix3 b r j) = attn I b ⟨j.val / 64, by omega⟩ r ⟨j.val % 64, by omega⟩ := by
  refine (ctxV_at I b ⟨r.val / 256, by omega⟩ ⟨j.val / 64, by omega⟩ (ix3 b r j) (ix3 0 ⟨r.val % 256, by omega⟩ ⟨j.val % 64, by omega⟩) rfl
    (Nat.div_add_mod r.val 256).symm (Nat.div_add_mod j.val 64).symm).trans ?_
  unfold Ins.head
  refine (head_at _ _ _ _ _ _ _ _ r (Nat.div_add_mod r.val 256).symm (fun e => ⟨64 * (j.val / 64) + e.val, by omega⟩) fun _ => rfl).trans ?_
  simp only [q_at, bias_at]
  rfl

/-- A device's partial product. -/
theorem acc_at (I : Ins Ideal) (b : Fin 2) (r : Fin 512) (o : Fin 768) :
    accV I (ix3 b r o) = ∑ j : Fin 512, attn I b ⟨j.val / 64, by omega⟩ r ⟨j.val % 64, by omega⟩ * (I.wo (ix2 j o) : EReal) := by
  refine (accV_at I b ⟨r.val / 256, by omega⟩ (ix3 b r o) (ix3 0 ⟨r.val % 256, by omega⟩ o) rfl (Nat.div_add_mod r.val 256).symm rfl).trans ?_
  rw [proj_at]
  refine Finset.sum_congr rfl fun j _ => congrArg (· * (I.wo (ix2 j o) : EReal)) ?_
  rw [← ctx_at]
  exact congrArg (fun R => (ctxV I (ix3 b R j) : EReal)) (Fin.ext (Nat.div_add_mod r.val 256) : (⟨256 * (r.val / 256) + r.val % 256, by omega⟩ : Fin 512) = r)

/-- The kernel's result. -/
theorem out_at (I : Dev nD → Ins Ideal) (b : Fin 2) (r : Fin 512) (o : Fin 768) :
    outV (fun c => accV (I c)) (ix3 b r o) = ∑ q : Fin 8, ∑ j : Fin 512,
      attn (I q) b ⟨j.val / 64, by omega⟩ r ⟨j.val % 64, by omega⟩ * ((I q).wo (ix2 j o) : EReal) := by
  refine (outV_at _ (⟨r.val / 64, by change _ < 8; omega⟩ : Dev nD) (ix3 b r o) (ix3 b ⟨r.val % 64, by omega⟩ o) rfl (Nat.div_add_mod r.val 64).symm rfl).trans ?_
  unfold redV
  rw [red_at]
  refine Finset.sum_congr rfl fun q _ => ?_
  rw [← acc_at]
  exact congrArg (fun R => (accV (I q) (ix3 b R o) : EReal)) (Fin.ext (Nat.div_add_mod r.val 64) : (⟨64 * (r.val / 64) + r.val % 64, by omega⟩ : Fin 512) = r)

end Cert.K

end
-- ==== Proof.RefVal.lean ====
/-
What the reference computes over the extended reals, element by element: the mask, the masked scores, the row maximum, the
weights, and the result as a sum over the heads' columns.
-/
module

public import proofs.«01_k».proof.Proof.Gen.ReferenceIdeal.Read
public import Idealize.ShloMosaic.Lib.Pointwise

@[expose] public section

set_option maxRecDepth 16384

noncomputable section

namespace Cert.Ref

open Cert.ReferenceIdeal Cert.ReferenceIdeal.Gen Cert.ReferenceIdeal.Read
open Idealize.ShloMosaic Idealize.ShloMosaic.StableHlo

/-- The word of the scale is one eighth. -/
theorem eighth : Ideal.ofBits .f32 0x3E000000#32 = ((1 / 8 : ℝ) : EReal) := by
  simp [Ideal.ofBits, Ideal.ieee, -EReal.coe_mul]; norm_num

/-- A query row's block of 64. -/
theorem row_block (r : Fin 512) : val_main_v4 (F := Ideal) (ix1 r) = BitVec.ofNat 32 (r.val / 64) := by
  unfold val_main_v4 val_main_call0_v2 val_main_call0_v13 val_main_call0_v12 val_main_call0_c_0 val_main_call0_v11 val_main_call0_v10 val_main_call0_v9 val_main_call0_c
    val_main_call0_v8 val_main_call0_v7 val_main_call0_v6 val_main_call0_v5 val_main_call0_v4 val_main_call0_v3 val_main_call0_v1 val_main_call0_v0 val_main_c val_main_v3
  pointwise
  revert r
  decide +kernel

/-- The queries, head by head: the product with the projection. -/
theorem v2_at (X : S2x512x768.Idx → EReal) (WQ : S768x4096.Idx → EReal) (b : Fin 2) (r : Fin 512) (H d : Fin 64) :
    val_main_v2 (F := Ideal) X WQ (ix4 b r H d) = ∑ e : Fin 768, X (ix3 b r e) * WQ (ix2 e ⟨64 * H.val + d.val, by omega⟩) := by
  unfold val_main_v2 val_main_v1 val_main_v0
  pointwise
  exact Finset.sum_congr rfl fun e _ => congrArg (fun j => X (ix3 b r e) * WQ (ix2 e j)) (Fin.ext (congrArg (· + d.val) (Nat.mul_comm _ _)))

/-- The scaled scores. -/
theorem v22_at (X : S2x512x768.Idx → EReal) (WQ : S768x4096.Idx → EReal) (K : S2x512x64x64.Idx → EReal) (b : Fin 2) (H : Fin 64) (r k : Fin 512) :
    val_main_v22 (F := Ideal) X WQ K (ix4 b H r k) = (∑ d : Fin 64, val_main_v2 (F := Ideal) X WQ (ix4 b r H d) * K (ix4 b k H d)) * ((1 / 8 : ℝ) : EReal) := by
  unfold val_main_v22 val_main_v21 val_main_v20 val_main_v19 val_main_v18 val_main_cst
  generalize val_main_v2 (F := Ideal) X WQ = Q
  pointwise
  rw [eighth]

/-- The reference's result from its weights. -/
theorem v45_at (X : S2x512x768.Idx → EReal) (WQ : S768x4096.Idx → EReal) (K V : S2x512x64x64.Idx → EReal) (WO : S4096x768.Idx → EReal)
    (b : Fin 2) (r : Fin 512) (o : Fin 768) :
    val_main_v45 (F := Ideal) X WQ K V WO (ix3 b r o) = ∑ J : Fin 4096,
      (∑ k : Fin 512, V (ix4 b k ⟨J.val / 64, by omega⟩ ⟨J.val % 64, by omega⟩) * val_main_v38 (F := Ideal) X WQ K (ix4 b ⟨J.val / 64, by omega⟩ r k)) * WO (ix2 J o) := by
  unfold val_main_v45 val_main_v44 val_main_v43 val_main_v42 val_main_v41 val_main_v40 val_main_v39
  generalize val_main_v38 (F := Ideal) X WQ K = W
  pointwise

/-! ## The mask -/

/-- A key's block of 64. -/
theorem col_block (c : Fin 512) : val_main_v7 (F := Ideal) (ix1 c) = BitVec.ofNat 32 (c.val / 64) :=
  (congrFun (show val_main_v7 (F := Ideal) = val_main_v4 (F := Ideal) from rfl) _).trans (row_block c)

/-- A key's block modulo four. -/
theorem col_class (c : Fin 512) : val_main_v12 (F := Ideal) (ix2 0 c) = BitVec.ofNat 32 (c.val / 64 % 4) := by
  have hc := col_block c
  unfold val_main_v12 val_main_call2_v14 val_main_call2_v13 val_main_call2_v12 val_main_call2_v11 val_main_call2_v10 val_main_call2_v9 val_main_call2_c_3
    val_main_call2_v8 val_main_call2_v7 val_main_call2_c_2 val_main_call2_v6 val_main_call2_v5 val_main_call2_c_1 val_main_call2_v4 val_main_call2_v3
    val_main_call2_v2 val_main_call2_c_0 val_main_call2_v1 val_main_call2_c val_main_call2_v0 val_main_c_1 val_main_v8
  generalize val_main_v7 (F := Ideal) = B at hc
  pointwise
  rw [hc]
  clear hc
  revert c
  decide +kernel

/-- A query row's block modulo four. -/
theorem row_class (r : Fin 512) : val_main_v13 (F := Ideal) (ix2 r 0) = BitVec.ofNat 32 (r.val / 64 % 4) := by
  have hc := row_block r
  unfold val_main_v13 val_main_call3_v14 val_main_call3_v13 val_main_call3_v12 val_main_call3_v11 val_main_call3_v10 val_main_call3_v9 val_main_call3_c_3
    val_main_call3_v8 val_main_call3_v7 val_main_call3_c_2 val_main_call3_v6 val_main_call3_v5 val_main_call3_c_1 val_main_call3_v4 val_main_call3_v3
    val_main_call3_v2 val_main_call3_c_0 val_main_call3_v1 val_main_call3_c val_main_call3_v0 val_main_c_2 val_main_v5
  generalize val_main_v4 (F := Ideal) = B at hc
  pointwise
  rw [hc]
  clear hc
  revert r
  decide +kernel

/-- Equal blocks or blocks equal modulo four: the second alone decides. -/
theorem block_class : ∀ a b : Fin 8, IntOp.ori (IntOp.cmpi .eq (BitVec.ofNat 32 a.val) (BitVec.ofNat 32 b.val))
    (IntOp.cmpi .eq (BitVec.ofNat 32 (b.val % 4)) (BitVec.ofNat 32 (a.val % 4))) = if a.val % 4 = b.val % 4 then 1#1 else 0#1 := by decide

/-- The mask keeps a key where its block and the row's agree modulo four. -/
theorem mask_at (r c : Fin 512) : val_main_v17 (F := Ideal) (ix2 r c) = if r.val / 64 % 4 = c.val / 64 % 4 then 1#1 else 0#1 := by
  have h1 := row_block r
  have h2 := col_block c
  have h3 := row_class r
  have h4 := col_class c
  unfold val_main_v17 val_main_v16 val_main_v15 val_main_v14 val_main_v11 val_main_v10 val_main_v9 val_main_v8 val_main_v5
  generalize val_main_v4 (F := Ideal) = B1 at h1 ⊢
  generalize val_main_v7 (F := Ideal) = B2 at h2 ⊢
  generalize val_main_v13 (F := Ideal) = B3 at h3 ⊢
  generalize val_main_v12 (F := Ideal) = B4 at h4 ⊢
  pointwise
  rw [h1, h2, h3, h4]
  exact block_class ⟨r.val / 64, by omega⟩ ⟨c.val / 64, by omega⟩

/-- Or with one is one. -/
theorem ori_one : ∀ y : BitVec 1, IntOp.ori 1#1 y = 1#1 ∧ IntOp.ori y 1#1 = 1#1 := by decide

/-- A fold by or is one when it starts at one or meets one. -/
theorem foldl_ori_one {ι : Type} (f : ι → BitVec 1) : ∀ (l : List ι) (i : BitVec 1), (i = 1#1 ∨ ∃ n ∈ l, f n = 1#1) →
    l.foldl (fun r n => IntOp.ori r (f n)) i = 1#1
  | [], i, h => h.elim id fun ⟨_, hn, _⟩ => nomatch hn
  | a :: l, i, h => foldl_ori_one f l _ (by
      rcases h with rfl | ⟨n, hn, e⟩
      · exact .inl (ori_one _).1
      · rcases List.mem_cons.1 hn with rfl | hn
        · exact .inl ((congrArg (IntOp.ori i) e).trans (ori_one i).2)
        · right; exact ⟨n, hn, e⟩)

/-- Every row keeps something: itself. -/
theorem keep_at (r : Fin 512) : val_main_v30 (F := Ideal) (ix1 r) = 1#1 := by
  unfold val_main_v30
  rw [Host.reduce_eq_foldl]
  refine foldl_ori_one _ _ _ (.inr ⟨ix2 r r, ?_, (mask_at r r).trans (if_pos rfl)⟩)
  rw [List.mem_filter]
  exact ⟨List.mem_map.2 ⟨S512x512.rowMajor (ix2 r r), List.mem_finRange _, Equiv.symm_apply_apply _ _⟩,
    decide_eq_true (funext fun a => by fin_cases a; rfl)⟩

/-! ## The weights -/

/-- The word of `-∞`. -/
theorem neg_inf : Ideal.ofBits .f32 0xFF800000#32 = (⊥ : EReal) := by
  simp [Ideal.ofBits, Ideal.ieee]

/-- The masked scores. -/
theorem v24_at (X : S2x512x768.Idx → EReal) (WQ : S768x4096.Idx → EReal) (K : S2x512x64x64.Idx → EReal) (b : Fin 2) (H : Fin 64) (r k : Fin 512) :
    val_main_v24 (F := Ideal) X WQ K (ix4 b H r k) =
      if r.val / 64 % 4 = k.val / 64 % 4 then (val_main_v22 (F := Ideal) X WQ K (ix4 b H r k) : EReal) else ⊥ := by
  have hm := mask_at r k
  unfold val_main_v24 val_main_call4_v1 val_main_call4_v2 val_main_call4_v0 val_main_cst_3 val_main_v23
  generalize val_main_v22 (F := Ideal) X WQ K = S
  generalize val_main_v17 (F := Ideal) = M at hm ⊢
  pointwise
  rw [hm, show id (constant (F := Ideal) S_ FTy.f32 0xFF800000#32) ix0 = (⊥ : EReal) from neg_inf]
  split <;> rfl

/-- A weight: the exponential of a score less the row's maximum, over the row's sum of them. -/
theorem v38_at (X : S2x512x768.Idx → EReal) (WQ : S768x4096.Idx → EReal) (K : S2x512x64x64.Idx → EReal) (b : Fin 2) (H : Fin 64) (r k : Fin 512) :
    val_main_v38 (F := Ideal) X WQ K (ix4 b H r k) = Ideal.div
      (Ideal.exp ((val_main_v24 (F := Ideal) X WQ K (ix4 b H r k) : EReal) - val_main_v25 (F := Ideal) X WQ K (ix3 b H r)))
      (∑ x : Fin 512, Ideal.exp ((val_main_v24 (F := Ideal) X WQ K (ix4 b H r x) : EReal) - val_main_v25 (F := Ideal) X WQ K (ix3 b H r))) := by
  have hk := keep_at r
  unfold val_main_v38 val_main_call6_v2 val_main_call6_v1 val_main_call6_v0 val_main_cst_8 val_main_v37 val_main_v36 val_main_v35 val_main_v34
    val_main_call5_v2 val_main_call5_v1 val_main_call5_v0 val_main_cst_7 val_main_v33 val_main_v32 val_main_cst_6 val_main_v31 val_main_v29 val_main_v28 val_main_v27 val_main_v26
  generalize val_main_v24 (F := Ideal) X WQ K = S
  generalize val_main_v25 (F := Ideal) X WQ K = M
  generalize val_main_v30 (F := Ideal) = B at hk ⊢
  pointwise
  rw [hk]
  rfl

/-! ## The row maximum -/

/-- A maximum of numbers below `+∞` is below it. -/
theorem foldl_max_top {ι : Type} (f : ι → EReal) (hf : ∀ n, f n ≠ ⊤) : ∀ (l : List ι) (i : EReal), i ≠ ⊤ → l.foldl (fun r n => max r (f n)) i ≠ ⊤
  | [], _, h => h
  | a :: l, i, h => foldl_max_top f hf l _ ((max_choice i (f a)).elim (fun e => ne_of_eq_of_ne e h) fun e => ne_of_eq_of_ne e (hf a))

/-- A maximum over a number above `-∞` is above it. -/
theorem foldl_max_bot {ι : Type} (f : ι → EReal) : ∀ (l : List ι) (i : EReal), (i ≠ ⊥ ∨ ∃ n ∈ l, f n ≠ ⊥) → l.foldl (fun r n => max r (f n)) i ≠ ⊥
  | [], i, h => h.elim id fun ⟨_, hn, _⟩ => nomatch hn
  | a :: l, i, h => foldl_max_bot f l _ (by
      rcases h with h | ⟨n, hn, e⟩
      · exact .inl fun h' => h (max_eq_bot.1 h').1
      · rcases List.mem_cons.1 hn with rfl | hn
        · exact .inl fun h' => e (max_eq_bot.1 h').2
        · exact .inr ⟨n, hn, e⟩)

/-- The row's maximum is not `+∞` if no score is. -/
theorem v25_ne_top (X : S2x512x768.Idx → EReal) (WQ : S768x4096.Idx → EReal) (K : S2x512x64x64.Idx → EReal)
    (h : ∀ i, (val_main_v24 (F := Ideal) X WQ K i : EReal) ≠ ⊤) (b : Fin 2) (H : Fin 64) (r : Fin 512) :
    (val_main_v25 (F := Ideal) X WQ K (ix3 b H r) : EReal) ≠ ⊤ := by
  unfold val_main_v25
  rw [Host.reduce_eq_foldl]
  exact foldl_max_top _ (fun n => h _) _ _ (ne_of_eq_of_ne neg_inf bot_ne_top)

/-- The row's maximum is not `-∞` if the score on the diagonal is not. -/
theorem v25_ne_bot (X : S2x512x768.Idx → EReal) (WQ : S768x4096.Idx → EReal) (K : S2x512x64x64.Idx → EReal)
    (b : Fin 2) (H : Fin 64) (r : Fin 512) (h : (val_main_v24 (F := Ideal) X WQ K (ix4 b H r r) : EReal) ≠ ⊥) :
    (val_main_v25 (F := Ideal) X WQ K (ix3 b H r) : EReal) ≠ ⊥ := by
  unfold val_main_v25
  rw [Host.reduce_eq_foldl]
  refine foldl_max_bot _ _ _ (.inr ⟨ix4 b H r r, ?_, h⟩)
  rw [List.mem_filter]
  exact ⟨List.mem_map.2 ⟨S2x64x512x512.rowMajor (ix4 b H r r), List.mem_finRange _, Equiv.symm_apply_apply _ _⟩,
    decide_eq_true (funext fun a => by fin_cases a <;> rfl)⟩

end Cert.Ref

end
-- ==== Proof.Equation.lean ====
/-
The kernel's result is the reference's: score by score, row by row, and the sum over the reference's 4096 columns as
one over eight devices of 512 columns each.
-/
module

public import proofs.«01_k».proof.Proof.KerOut
public import proofs.«01_k».proof.Proof.RefVal

@[expose] public section

set_option maxRecDepth 16384

noncomputable section

namespace Cert.K

open Idealize.ShloMosaic
open Cert.ReferenceIdeal.Read (val_main_v45 val_main_v38 val_main_v24 val_main_v25)
open Cert.KernelIdeal (nD)

/-- The devices' inputs are the whole arrays' blocks, and no hidden state, projection weight or key is infinite. -/
structure Placed (I : Dev nD → Ins Ideal) (X : Cert.ReferenceIdeal.S2x512x768.Idx → EReal) (WQ : Cert.ReferenceIdeal.S768x4096.Idx → EReal)
    (K V : Cert.ReferenceIdeal.S2x512x64x64.Idx → EReal) (WO : Cert.ReferenceIdeal.S4096x768.Idx → EReal) : Prop where
  x : ∀ q i, ((I q).x i : EReal) = X i
  wq : ∀ (q : Fin 8) (n : Fin 768) (j : Fin 512) (J : Fin 4096), J.val = q.val * 512 + j.val → ((I q).wq (ix2 n j) : EReal) = WQ (ix2 n J)
  k : ∀ (q : Fin 8) (b : Fin 2) (x : Fin 512) (h : Fin 8) (e H : Fin 64), H.val = q.val * 8 + h.val → ((I q).k (ix4 b x h e) : EReal) = K (ix4 b x H e)
  v : ∀ (q : Fin 8) (b : Fin 2) (x : Fin 512) (h : Fin 8) (e H : Fin 64), H.val = q.val * 8 + h.val → ((I q).v (ix4 b x h e) : EReal) = V (ix4 b x H e)
  wo : ∀ (q : Fin 8) (j : Fin 512) (o : Fin 768) (J : Fin 4096), J.val = q.val * 512 + j.val → ((I q).wo (ix2 j o) : EReal) = WO (ix2 J o)
  fx : ∀ q i, ((I q).x i : EReal) ≠ ⊤ ∧ ((I q).x i : EReal) ≠ ⊥
  fwq : ∀ q i, ((I q).wq i : EReal) ≠ ⊤ ∧ ((I q).wq i : EReal) ≠ ⊥
  fk : ∀ q i, ((I q).k i : EReal) ≠ ⊤ ∧ ((I q).k i : EReal) ≠ ⊥

variable {I : Dev nD → Ins Ideal} {X : Cert.ReferenceIdeal.S2x512x768.Idx → EReal} {WQ : Cert.ReferenceIdeal.S768x4096.Idx → EReal}
  {K V : Cert.ReferenceIdeal.S2x512x64x64.Idx → EReal} {WO : Cert.ReferenceIdeal.S4096x768.Idx → EReal}

/-- The masked scores agree; they are never `+∞`, and real where the mask keeps them. -/
theorem Placed.score (P : Placed I X WQ K V WO) (q h : Fin 8) (b : Fin 2) (r x : Fin 512) (H : Fin 64) (hH : H.val = q.val * 8 + h.val) :
    (val_main_v24 (F := Ideal) X WQ K (ix4 b H r x) : EReal) = Cert.K.score (I q) b h r x ∧ Cert.K.score (I q) b h r x ≠ ⊤ ∧
      (r.val / 64 % 4 = x.val / 64 % 4 → Cert.K.score (I q) b h r x ≠ ⊥) := by
  obtain ⟨a, e1, e2⟩ := Softmax.score_eq (fun n : Fin 768 => ((I q).x (ix3 b r n) : EReal))
    (fun n (e : Fin 64) => ((I q).wq (ix2 n ⟨64 * h.val + e.val, by omega⟩) : EReal)) (fun e => ((I q).k (ix4 b x h e) : EReal))
    (fun _ => P.fx q _) (fun _ _ => P.fwq q _) (fun _ => P.fk q _) (1 / 8)
  have e3 : Cert.K.score (I q) b h r x = (a : EReal) + (if r.val / 64 % 4 = x.val / 64 % 4 then 0 else ⊥) := congrArg (· + _) e1
  have e4 : (Cert.ReferenceIdeal.Read.val_main_v22 (F := Ideal) X WQ K (ix4 b H r x) : EReal) = (a : EReal) := by
    rw [Cert.Ref.v22_at, ← e2]
    refine congrArg (· * _) (Finset.sum_congr rfl fun e _ => ?_)
    rw [Cert.Ref.v2_at, P.k q b x h e H hH]
    refine congrArg (· * _) (Finset.sum_congr rfl fun n _ => ?_)
    rw [P.x, P.wq q n ⟨64 * h.val + e.val, by omega⟩ ⟨64 * H.val + e.val, by omega⟩ (by dsimp only; omega)]
  rw [Cert.Ref.v24_at, e4, e3]
  split
  · exact ⟨(add_zero _).symm, ne_of_eq_of_ne (add_zero _) (EReal.coe_ne_top a), fun _ => ne_of_eq_of_ne (add_zero _) (EReal.coe_ne_bot a)⟩
  · exact ⟨(EReal.add_bot _).symm, ne_of_eq_of_ne (EReal.add_bot _) bot_ne_top, fun h' => absurd h' ‹_›⟩

/-- A row of the reference's attention is the device's. -/
theorem Placed.row (P : Placed I X WQ K V WO) (q h : Fin 8) (b : Fin 2) (r : Fin 512) (d H : Fin 64) (hH : H.val = q.val * 8 + h.val) :
    ∑ k : Fin 512, V (ix4 b k H d) * (val_main_v38 (F := Ideal) X WQ K (ix4 b H r k) : EReal) = attn (I q) b h r d := by
  have hs := fun x => P.score q h b r x H hH
  have hM := Cert.Ref.v25_ne_top X WQ K (fun i => by
    obtain ⟨b', H', r', k', rfl⟩ : ∃ b' H' r' k', i = ix4 b' H' r' k' := ⟨i 0, i 1, i 2, i 3, funext fun a => by fin_cases a <;> rfl⟩
    have s := P.score ⟨H'.val / 8, by omega⟩ ⟨H'.val % 8, by omega⟩ b' r' k' H' (by dsimp only; omega)
    exact ne_of_eq_of_ne s.1 s.2.1) b H r
  have hM' := Cert.Ref.v25_ne_bot X WQ K b H r (ne_of_eq_of_ne (hs r).1 ((hs r).2.2 rfl))
  simp only [Cert.Ref.v38_at]
  rw [Softmax.row_eq (fun k => (val_main_v24 (F := Ideal) X WQ K (ix4 b H r k) : EReal)) _ _ (fun k => ne_of_eq_of_ne (hs k).1 (hs k).2.1) r
    (ne_of_eq_of_ne (hs r).1 ((hs r).2.2 rfl)) hM hM']
  unfold attn
  simp only [fun x => (hs x).1, fun x => P.v q b x h d H hH]

/-- A sum over 4096 columns, device by device. -/
theorem sum_devices (f : Fin 4096 → EReal) : ∑ J, f J = ∑ q : Fin 8, ∑ j : Fin 512, f ⟨q.val * 512 + j.val, by omega⟩ := by
  rw [← Fintype.sum_prod_type' (f := fun (q : Fin 8) (j : Fin 512) => f ⟨q.val * 512 + j.val, by omega⟩)]
  refine (Fintype.sum_equiv (finProdFinEquiv.trans (finCongr (by norm_num)) : Fin 8 × Fin 512 ≃ Fin 4096) _ _ fun p => congrArg f (Fin.ext ?_)).symm
  show p.1.val * 512 + p.2.val = p.2.val + 512 * p.1.val
  omega

/-- The two results are one array. -/
theorem Placed.out (P : Placed I X WQ K V WO) : (outV (fun c => accV (I c)) : Cert.ReferenceIdeal.S2x512x768.Idx → EReal) = val_main_v45 (F := Ideal) X WQ K V WO := by
  funext i
  obtain ⟨b, r, o, rfl⟩ : ∃ b r o, i = ix3 b r o := ⟨i 0, i 1, i 2, funext fun a => by fin_cases a <;> rfl⟩
  refine (out_at I b r o).trans ?_
  rw [Cert.Ref.v45_at, sum_devices]
  refine Finset.sum_congr rfl fun q _ => Finset.sum_congr rfl fun j _ => ?_
  rw [P.wo q j o ⟨q.val * 512 + j.val, by omega⟩ rfl,
    ← P.row q ⟨j.val / 64, by omega⟩ b r ⟨j.val % 64, by omega⟩ ⟨(q.val * 512 + j.val) / 64, by omega⟩ (by dsimp only; omega)]
  rw [show (⟨(q.val * 512 + j.val) % 64, by omega⟩ : Fin 64) = ⟨j.val % 64, by omega⟩ from Fin.ext (by dsimp only; omega)]

end Cert.K

end
-- ==== Proof.Finite.lean ====
/-
What the precondition `finite` says: no element of the hidden states, of the query projection's weights or of the keys
is infinite.
-/
module

public import proofs.«01_k».proof.Pre_finite_KernelIdeal
public import Idealize.ShloMosaic.Lib.Pointwise
public import Idealize.ShloMosaic.Lib.ReduceAll
public import Idealize.ShloMosaic.Lib.Affine

@[expose] public section

set_option maxRecDepth 16384

noncomputable section

namespace Cert.K

open Idealize.ShloMosaic Cert.Pre_finite_KernelIdeal

/-- What the precondition states of its own shapes. -/
instance pre_facts : Cert.Pre_finite_KernelIdeal.Facts := by constructor <;> decide

/-- The precondition's result has one place. -/
instance : Subsingleton (S_.Idx) := ⟨fun _ _ => funext fun a => a.elim0⟩

/-- Below infinity in magnitude: neither infinity. -/
theorem finite_of_abs (x : EReal) (h : FloatOps.cmpf (F := Ideal) .olt (FloatOps.hostAbsf (F := Ideal) (φ := .f32) x) (Ideal.ofBits .f32 0x7F800000#32) = 1#1) : x ≠ ⊤ ∧ x ≠ ⊥ := by
  have e : Ideal.ofBits .f32 0x7F800000#32 = (⊤ : EReal) := by simp [Ideal.ofBits, Ideal.ieee]
  rw [e] at h
  have h' : Ideal.cmp .olt (max x (-x)) ⊤ = 1#1 := h
  constructor <;> rintro rfl <;> simp [Ideal.cmp] at h'

/-- Where the precondition holds, x, Wq and K_ext have no infinite element. -/
theorem finite_at (x : FVec Ideal S2x512x768 .bf16) (wq : FVec Ideal S768x512 .bf16) (k v : FVec Ideal S2x512x8x64 .bf16) (wo : FVec Ideal S512x768 .bf16)
    (h : fn (F := Ideal) x wq k v wo = fun _ => 1#1) :
    (∀ i, (x i : EReal) ≠ ⊤ ∧ (x i : EReal) ≠ ⊥) ∧ (∀ i, (wq i : EReal) ≠ ⊤ ∧ (wq i : EReal) ≠ ⊥) ∧ ∀ i, (k i : EReal) ≠ ⊤ ∧ (k i : EReal) ≠ ⊥ := by
  have e := congrFun h (fun a => a.elim0)
  dsimp only [fn] at e
  obtain ⟨e, e3⟩ := IntOp.andi_eq_one.1 e
  obtain ⟨e1, e2⟩ := IntOp.andi_eq_one.1 e
  exact ⟨fun i => finite_of_abs _ (Host.reduce_andi_all _ _ _ _ _ e1 i), fun i => finite_of_abs _ (Host.reduce_andi_all _ _ _ _ _ e2 i),
    fun i => finite_of_abs _ (Host.reduce_andi_all _ _ _ _ _ e3 i)⟩

end Cert.K

end
-- ==== Proof.Algebraic.lean ====
/-
The value claim: from placed, finite arguments both programs end with the same array, on every device.
-/
module

public import proofs.«01_k».proof.Proof.Frames
public import proofs.«01_k».proof.Proof.Output
public import proofs.«01_k».proof.Proof.Equation
public import proofs.«01_k».proof.Proof.Finite
public import proofs.«01_k».proof.Proof.Gen.ReferenceIdeal.Read
public import proofs.«01_k».proof.Defs
public import proofs.«01_k».proof.Proof.Gen.Kernel
public import proofs.«01_k».proof.Proof.Gen.ReferenceIdeal
public import proofs.«01_k».proof.Proof.Gen.ReferenceIdeal.Run

@[expose] public section

set_option maxRecDepth 65536

noncomputable section

namespace Cert.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.SparseCore.ProtocolKit

/-- What the precondition states of its own shapes, on the whole arrays. -/
instance ref_pre_facts : Cert.Pre_finite_ReferenceIdeal.Facts := by constructor <;> decide

/-- The frame of the idealized kernel, under the precondition. -/
theorem frame_kernelIdeal_finite : Cert.quiescent_KernelIdeal_pre_finite_KernelIdeal := fun m ρ _ => frame_kernelIdeal m ρ trivial

/-- The frame of the reference, under the precondition. -/
theorem frame_reference_finite : Cert.quiescent_ReferenceIdeal_pre_finite_ReferenceIdeal := fun m ρ _ => frame_reference m ρ trivial

/-! ## The blocks' elements -/

/-- An element of a device's columns of `Wq`. -/
theorem block_wq (w : (⟨2, ![768, 4096]⟩ : Shape).Idx → EReal) (q : Fin 8) (n : Fin 768) (j : Fin 512) (J : Fin 4096) (hJ : J.val = q.val * 512 + j.val) :
    Layout.block ⟨2, ![768, 512]⟩ ⟨2, ![768, 4096]⟩ 1 8 q w (by decide) (ix2 n j) = w (ix2 n J) :=
  congrArg w (funext fun a => Fin.ext (by fin_cases a; exacts [rfl, hJ.symm]))

/-- An element of a device's heads of the keys or the values. -/
theorem block_kv (w : (⟨4, ![2, 512, 64, 64]⟩ : Shape).Idx → EReal) (q : Fin 8) (b : Fin 2) (x : Fin 512) (h : Fin 8) (e H : Fin 64) (hH : H.val = q.val * 8 + h.val) :
    Layout.block ⟨4, ![2, 512, 8, 64]⟩ ⟨4, ![2, 512, 64, 64]⟩ 2 8 q w (by decide) (ix4 b x h e) = w (ix4 b x H e) :=
  congrArg w (funext fun a => Fin.ext (by fin_cases a; exacts [rfl, rfl, hH.symm, rfl]))

/-- An element of a device's rows of `Wo`. -/
theorem block_wo (w : (⟨2, ![4096, 768]⟩ : Shape).Idx → EReal) (q : Fin 8) (j : Fin 512) (o : Fin 768) (J : Fin 4096) (hJ : J.val = q.val * 512 + j.val) :
    Layout.block ⟨2, ![512, 768]⟩ ⟨2, ![4096, 768]⟩ 0 8 q w (by decide) (ix2 j o) = w (ix2 J o) :=
  congrArg w (funext fun a => Fin.ext (by fin_cases a; exacts [hJ.symm, rfl]))

/-- Every device of the kernel ends with the reference's result. -/
theorem algebraic : Cert.algebraic_KernelIdeal_ReferenceIdeal_pre_finite_KernelIdeal := by
  intro m ρ m' ρ' hp ha
  have hf := fun c => finite_at _ _ _ _ _ (hp c)
  have P : Placed (ins m ρ) (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3))
      (m' (((0 : Dev Cert.ReferenceIdeal.nD).tc : Thread Cert.ReferenceIdeal.nD Cert.ReferenceIdeal.τ).loc Cert.ReferenceIdeal.main_arg4)) := by
    constructor
    · intro q i; rw [ins_eq]; exact congrFun (ha q).1 i
    · intro q n j J hJ; rw [ins_eq]
      exact (congrFun (ha q).2.1 (ix2 n j)).trans (block_wq _ q n j J hJ)
    · intro q b x h e H hH; rw [ins_eq]
      exact (congrFun (ha q).2.2.1 (ix4 b x h e)).trans (block_kv _ q b x h e H hH)
    · intro q b x h e H hH; rw [ins_eq]
      exact (congrFun (ha q).2.2.2.1 (ix4 b x h e)).trans (block_kv _ q b x h e H hH)
    · intro q j o J hJ; rw [ins_eq]
      exact (congrFun (ha q).2.2.2.2 (ix2 j o)).trans (block_wo _ q j o J hJ)
    · intro q; rw [ins_eq]; exact (hf q).1
    · intro q; rw [ins_eq]; exact (hf q).2.1
    · intro q; rw [ins_eq]; exact (hf q).2.2
  refine ⟨outV (accs m ρ), (θ_run Cert.KernelIdeal.defs _ _).mono (fun _ h c => ⟨(h.1 c 5).trans (finalA_out m ρ c),
      (h.1 c 0).trans (finalA_in m ρ c 0 (by decide)), (h.1 c 1).trans (finalA_in m ρ c 1 (by decide)), (h.1 c 2).trans (finalA_in m ρ c 2 (by decide)),
      (h.1 c 3).trans (finalA_in m ρ c 3 (by decide)), (h.1 c 4).trans (finalA_in m ρ c 4 (by decide))⟩) (run_main m ρ),
    (θ_run Cert.ReferenceIdeal.defs _ _).mono (fun r h => ⟨?_, (h 0).2⟩) (Cert.ReferenceIdeal.Value.run (F := Ideal) m' ρ')⟩
  exact (h 0).1.trans ((Cert.ReferenceIdeal.Read.val_main_v45_eq m' 0).trans P.out.symm)

end Cert.K

end
-- ==== Proof.lean ====
module

public import proofs.«01_k».proof.Defs
public import proofs.«01_k».proof.Proof.Frames
public import proofs.«01_k».proof.Proof.Algebraic
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.K.pre_facts, Cert.K.ref_pre_facts, Cert.K.frame_kernel, Cert.K.frame_kernelIdeal, Cert.K.frame_kernelIdeal_finite, Cert.K.frame_reference,
  Cert.K.frame_reference_finite, Cert.K.preserved, Cert.K.algebraic⟩

end Cert.Proof

end
